-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_biases_finite_coordinates [hPre_zero_biases_finite_coordinates : Cert.Pre_zero_biases_finite_coordinates.Facts] (m : (ℓ : Loc Cert.KernelIdeal.nD Cert.KernelIdeal.τ Cert.KernelIdeal.sig) → Buf (Elt Ideal) ℓ) : Prop :=
  ∀ c : Dev Cert.KernelIdeal.nD,
    (Cert.Pre_zero_biases_finite_coordinates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_zero_biases_finite_coordinates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_zero_biases_finite_coordinates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 = (fun _ => 1#1)
    ∧ (Cert.Pre_zero_biases_finite_coordinates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 = (fun _ => 1#1)
    ∧ (Cert.Pre_zero_biases_finite_coordinates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.1 = (fun _ => 1#1)
    ∧ (Cert.Pre_zero_biases_finite_coordinates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.1 = (fun _ => 1#1)
    ∧ (Cert.Pre_zero_biases_finite_coordinates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.1 = (fun _ => 1#1)
    ∧ (Cert.Pre_zero_biases_finite_coordinates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.1 = (fun _ => 1#1)
    ∧ (Cert.Pre_zero_biases_finite_coordinates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_biases_finite_coordinates [hPre_zero_biases_finite_coordinates : Cert.Pre_zero_biases_finite_coordinates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_biases_finite_coordinates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_zero_biases_finite_coordinates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_zero_biases_finite_coordinates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.1 = (fun _ => 1#1)
    ∧ (Cert.Pre_zero_biases_finite_coordinates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.1 = (fun _ => 1#1)
    ∧ (Cert.Pre_zero_biases_finite_coordinates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.1 = (fun _ => 1#1)
    ∧ (Cert.Pre_zero_biases_finite_coordinates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.1 = (fun _ => 1#1)
    ∧ (Cert.Pre_zero_biases_finite_coordinates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.1 = (fun _ => 1#1)
    ∧ (Cert.Pre_zero_biases_finite_coordinates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.1 = (fun _ => 1#1)
    ∧ (Cert.Pre_zero_biases_finite_coordinates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_zero_biases_finite_coordinates [hKernelIdeal : Cert.KernelIdeal.Facts] [hPre_zero_biases_finite_coordinates : Cert.Pre_zero_biases_finite_coordinates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_biases_finite_coordinates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_zero_biases_finite_coordinates [hReferenceIdeal : Cert.ReferenceIdeal.Facts] [hPre_zero_biases_finite_coordinates : Cert.Pre_zero_biases_finite_coordinates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_biases_finite_coordinates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_zero_biases_finite_coordinates [hKernelIdeal : Cert.KernelIdeal.Facts] [hReferenceIdeal : Cert.ReferenceIdeal.Facts] [hPre_zero_biases_finite_coordinates : Cert.Pre_zero_biases_finite_coordinates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_biases_finite_coordinates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v142) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v268) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_zero_biases_finite_coordinates : Cert.Pre_zero_biases_finite_coordinates.Facts),
    quiescent_Kernel (hKernel := hKernel)
    ∧ quiescent_KernelIdeal (hKernelIdeal := hKernelIdeal)
    ∧ quiescent_KernelIdeal_pre_zero_biases_finite_coordinates (hKernelIdeal := hKernelIdeal) (hPre_zero_biases_finite_coordinates := hPre_zero_biases_finite_coordinates)
    ∧ quiescent_ReferenceIdeal (hReferenceIdeal := hReferenceIdeal)
    ∧ quiescent_ReferenceIdeal_pre_zero_biases_finite_coordinates (hReferenceIdeal := hReferenceIdeal) (hPre_zero_biases_finite_coordinates := hPre_zero_biases_finite_coordinates)
    ∧ preserves_Kernel_KernelIdeal
    ∧ algebraic_KernelIdeal_ReferenceIdeal_pre_zero_biases_finite_coordinates (hKernelIdeal := hKernelIdeal) (hReferenceIdeal := hReferenceIdeal) (hPre_zero_biases_finite_coordinates := hPre_zero_biases_finite_coordinates)
-- ==== Pre_zero_biases_finite_coordinates.lean ====
abbrev S2048x66 : Shape := ⟨2, ![2048, 66]⟩
abbrev S1 : Shape := ⟨1, ![1]⟩
abbrev S22x22 : Shape := ⟨2, ![22, 22]⟩
abbrev S23x32 : Shape := ⟨2, ![23, 32]⟩
abbrev S32 : Shape := ⟨1, ![32]⟩
abbrev S2x65x32 : Shape := ⟨3, ![2, 65, 32]⟩
abbrev S2x32 : Shape := ⟨2, ![2, 32]⟩
abbrev S2x32x32 : Shape := ⟨3, ![2, 32, 32]⟩
abbrev S2x32x1 : Shape := ⟨3, ![2, 32, 1]⟩
abbrev S2x1 : Shape := ⟨2, ![2, 1]⟩
abbrev S2x64x32 : Shape := ⟨3, ![2, 64, 32]⟩
abbrev S_ : Shape := ⟨0, ![]⟩

class Facts : Prop where
  bcast_S_S2048x66 : S_.BroadcastsInDim S2048x66 (![] : Fin 0 → Fin S2048x66.rank)
  bcast_S_S32 : S_.BroadcastsInDim S32 (![] : Fin 0 → Fin S32.rank)
  bcast_S_S2x32 : S_.BroadcastsInDim S2x32 (![] : Fin 0 → Fin S2x32.rank)
  bcast_S_S2x1 : S_.BroadcastsInDim S2x1 (![] : Fin 0 → Fin S2x1.rank)

variable [Facts]

def fn_part1 {F : FTy → Type} [FloatOps F] (main_arg16 : FVec F S2x32 .f32) (main_arg18 : FVec F S2x1 .f32) (main_v2 : IVec S2048x66 1) (main_v4 : IVec S32 1) (main_v6 : IVec S2x32 1) (main_v8 : IVec S2x32 1) (main_v10 : IVec S2x1 1) (main_v12 : IVec S2x32 1) (main_v14 : IVec S2x32 1) (main_v15 : FVec F S2x32 .f32) : IVec S2048x66 1 × IVec S32 1 × IVec S2x32 1 × IVec S2x32 1 × IVec S2x1 1 × IVec S2x32 1 × IVec S2x32 1 × IVec S2x32 1 × IVec S2x1 1 :=
  let main_v16 : IVec S2x32 1 := cmpf .oeq main_arg16 main_v15
  let main_cst_7 : FVec F S_ .f32 := constant S_ .f32 0x00000000#32
  let main_v17 : FVec F S2x1 .f32 := broadcastInDim S2x1 ![] bcast_S_S2x1 main_cst_7
  let main_v18 : IVec S2x1 1 := cmpf .oeq main_arg18 main_v17
  (main_v2, main_v4, main_v6, main_v8, main_v10, main_v12, main_v14, main_v16, main_v18)

def fn {F : FTy → Type} [FloatOps F] (main_arg0 : FVec F S2048x66 .f32) (main_arg1 : FVec F S1 .f32) (main_arg2 : FVec F S22x22 .f32) (main_arg3 : FVec F S23x32 .f32) (main_arg4 : FVec F S32 .f32) (main_arg5 : FVec F S2x65x32 .f32) (main_arg6 : FVec F S2x32 .f32) (main_arg7 : FVec F S2x32x32 .f32) (main_arg8 : FVec F S2x32 .f32) (main_arg9 : FVec F S2x32x1 .f32) (main_arg10 : FVec F S2x1 .f32) (main_arg11 : FVec F S2x64x32 .f32) (main_arg12 : FVec F S2x32 .f32) (main_arg13 : FVec F S2x32x32 .f32) (main_arg14 : FVec F S2x32 .f32) (main_arg15 : FVec F S2x32x32 .f32) (main_arg16 : FVec F S2x32 .f32) (main_arg17 : FVec F S2x32x1 .f32) (main_arg18 : FVec F S2x1 .f32) : IVec S2048x66 1 × IVec S32 1 × IVec S2x32 1 × IVec S2x32 1 × IVec S2x1 1 × IVec S2x32 1 × IVec S2x32 1 × IVec S2x32 1 × IVec S2x1 1 :=
  let main_v0 : FVec F S2048x66 .f32 := Host.absf main_arg0
  let main_cst : FVec F S_ .f32 := constant S_ .f32 0x7F800000#32
  let main_v1 : FVec F S2048x66 .f32 := broadcastInDim S2048x66 ![] bcast_S_S2048x66 main_cst
  let main_v2 : IVec S2048x66 1 := cmpf .olt main_v0 main_v1
  let main_cst_0 : FVec F S_ .f32 := constant S_ .f32 0x00000000#32
  let main_v3 : FVec F S32 .f32 := broadcastInDim S32 ![] bcast_S_S32 main_cst_0
  let main_v4 : IVec S32 1 := cmpf .oeq main_arg4 main_v3
  let main_cst_1 : FVec F S_ .f32 := constant S_ .f32 0x00000000#32
  let main_v5 : FVec F S2x32 .f32 := broadcastInDim S2x32 ![] bcast_S_S2x32 main_cst_1
  let main_v6 : IVec S2x32 1 := cmpf .oeq main_arg6 main_v5
  let main_cst_2 : FVec F S_ .f32 := constant S_ .f32 0x00000000#32
  let main_v7 : FVec F S2x32 .f32 := broadcastInDim S2x32 ![] bcast_S_S2x32 main_cst_2
  let main_v8 : IVec S2x32 1 := cmpf .oeq main_arg8 main_v7
  let main_cst_3 : FVec F S_ .f32 := constant S_ .f32 0x00000000#32
  let main_v9 : FVec F S2x1 .f32 := broadcastInDim S2x1 ![] bcast_S_S2x1 main_cst_3
  let main_v10 : IVec S2x1 1 := cmpf .oeq main_arg10 main_v9
  let main_cst_4 : FVec F S_ .f32 := constant S_ .f32 0x00000000#32
  let main_v11 : FVec F S2x32 .f32 := broadcastInDim S2x32 ![] bcast_S_S2x32 main_cst_4
  let main_v12 : IVec S2x32 1 := cmpf .oeq main_arg12 main_v11
  let main_cst_5 : FVec F S_ .f32 := constant S_ .f32 0x00000000#32
  let main_v13 : FVec F S2x32 .f32 := broadcastInDim S2x32 ![] bcast_S_S2x32 main_cst_5
  let main_v14 : IVec S2x32 1 := cmpf .oeq main_arg14 main_v13
  let main_cst_6 : FVec F S_ .f32 := constant S_ .f32 0x00000000#32
  let main_v15 : FVec F S2x32 .f32 := broadcastInDim S2x32 ![] bcast_S_S2x32 main_cst_6
  fn_part1 (F := F) main_arg16 main_arg18 main_v2 main_v4 main_v6 main_v8 main_v10 main_v12 main_v14 main_v15
-- ==== Kernel.lean ====
abbrev S2048x66 : Shape := ⟨2, ![2048, 66]⟩
abbrev S1 : Shape := ⟨1, ![1]⟩
abbrev S22x22 : Shape := ⟨2, ![22, 22]⟩
abbrev S23x32 : Shape := ⟨2, ![23, 32]⟩
abbrev S32 : Shape := ⟨1, ![32]⟩
abbrev S2x65x32 : Shape := ⟨3, ![2, 65, 32]⟩
abbrev S2x32 : Shape := ⟨2, ![2, 32]⟩
abbrev S2x32x32 : Shape := ⟨3, ![2, 32, 32]⟩
abbrev S2x32x1 : Shape := ⟨3, ![2, 32, 1]⟩
abbrev S2x1 : Shape := ⟨2, ![2, 1]⟩
abbrev S2x64x32 : Shape := ⟨3, ![2, 64, 32]⟩
abbrev S2048x22x3 : Shape := ⟨3, ![2048, 22, 3]⟩
abbrev S_ : Shape := ⟨0, ![]⟩
abbrev S2048x24x32 : Shape := ⟨3, ![2048, 24, 32]⟩
abbrev S512x4x24x32 : Shape := ⟨4, ![512, 4, 24, 32]⟩
abbrev S512x24x4x32 : Shape := ⟨4, ![512, 24, 4, 32]⟩
abbrev S12288x128 : Shape := ⟨2, ![12288, 128]⟩
abbrev S1x1 : Shape := ⟨2, ![1, 1]⟩
abbrev S22x1 : Shape := ⟨2, ![22, 1]⟩
abbrev S22x23 : Shape := ⟨2, ![22, 23]⟩
abbrev S24x24 : Shape := ⟨2, ![24, 24]⟩
abbrev S24x32 : Shape := ⟨2, ![24, 32]⟩
abbrev S1x24x1x32 : Shape := ⟨4, ![1, 24, 1, 32]⟩
abbrev S1x24x4x32 : Shape := ⟨4, ![1, 24, 4, 32]⟩
abbrev S24x128 : Shape := ⟨2, ![24, 128]⟩
abbrev S4x4 : Shape := ⟨2, ![4, 4]⟩
abbrev S1x32 : Shape := ⟨2, ![1, 32]⟩
abbrev S1x32x32 : Shape := ⟨3, ![1, 32, 32]⟩
abbrev S32x32 : Shape := ⟨2, ![32, 32]⟩
abbrev S4x1x4x1 : Shape := ⟨4, ![4, 1, 4, 1]⟩
abbrev S1x32x1x32 : Shape := ⟨4, ![1, 32, 1, 32]⟩
abbrev S4x32x4x32 : Shape := ⟨4, ![4, 32, 4, 32]⟩
abbrev S128x128 : Shape := ⟨2, ![128, 128]⟩
abbrev S1x128x128 : Shape := ⟨3, ![1, 128, 128]⟩
abbrev S2x128x128 : Shape := ⟨3, ![2, 128, 128]⟩
abbrev S2x1x32 : Shape := ⟨3, ![2, 1, 32]⟩
abbrev S1x2x1x1x1x32 : Shape := ⟨6, ![1, 2, 1, 1, 1, 32]⟩
abbrev S1x2x1x1x4x32 : Shape := ⟨6, ![1, 2, 1, 1, 4, 32]⟩
abbrev S2x1x128 : Shape := ⟨3, ![2, 1, 128]⟩
abbrev S1x1x32 : Shape := ⟨3, ![1, 1, 32]⟩
abbrev S3x32 : Shape := ⟨2, ![3, 32]⟩
abbrev S29x32 : Shape := ⟨2, ![29, 32]⟩
abbrev S384x128 : Shape := ⟨2, ![384, 128]⟩
abbrev S1x24x128 : Shape := ⟨3, ![1, 24, 128]⟩
abbrev S16x24x128 : Shape := ⟨3, ![16, 24, 128]⟩
abbrev S384x24x1 : Shape := ⟨3, ![384, 24, 1]⟩
abbrev S384x1x128 : Shape := ⟨3, ![384, 1, 128]⟩
abbrev S16x1x24x128 : Shape := ⟨4, ![16, 1, 24, 128]⟩
abbrev S16x24x24x128 : Shape := ⟨4, ![16, 24, 24, 128]⟩
abbrev S384x24x128 : Shape := ⟨3, ![384, 24, 128]⟩
abbrev S9216x128 : Shape := ⟨2, ![9216, 128]⟩
abbrev S1x1x128 : Shape := ⟨3, ![1, 1, 128]⟩
abbrev S1x128 : Shape := ⟨2, ![1, 128]⟩
abbrev S512x4x22x3 : Shape := ⟨4, ![512, 4, 22, 3]⟩
abbrev S2048x132 : Shape := ⟨2, ![2048, 132]⟩

abbrev nBuf : Space → Nat
  | .hbm => 268
  | .vmem => 17
  | .smem => 0
  | _ => 0

abbrev hbmTy0_0 (i : Nat) : BufTy := match i % 128 with
  | 0 => ⟨S2048x66, .f32⟩
  | 1 => ⟨S1, .f32⟩
  | 2 => ⟨S22x22, .f32⟩
  | 3 => ⟨S23x32, .f32⟩
  | 4 => ⟨S32, .f32⟩
  | 5 => ⟨S2x65x32, .f32⟩
  | 6 => ⟨S2x32, .f32⟩
  | 7 => ⟨S2x32x32, .f32⟩
  | 8 => ⟨S2x32, .f32⟩
  | 9 => ⟨S2x32x1, .f32⟩
  | 10 => ⟨S2x1, .f32⟩
  | 11 => ⟨S2x64x32, .f32⟩
  | 12 => ⟨S2x32, .f32⟩
  | 13 => ⟨S2x32x32, .f32⟩
  | 14 => ⟨S2x32, .f32⟩
  | 15 => ⟨S2x32x32, .f32⟩
  | 16 => ⟨S2x32, .f32⟩
  | 17 => ⟨S2x32x1, .f32⟩
  | 18 => ⟨S2x1, .f32⟩
  | 19 => ⟨S2048x22x3, .f32⟩
  | 20 => ⟨S_, .i32⟩
  | 21 => ⟨S_, .f32⟩
  | 22 => ⟨S2048x24x32, .f32⟩
  | 23 => ⟨S512x4x24x32, .f32⟩
  | 24 => ⟨S512x24x4x32, .f32⟩
  | 25 => ⟨S12288x128, .f32⟩
  | 26 => ⟨S1x1, .f32⟩
  | 27 => ⟨S22x1, .f32⟩
  | 28 => ⟨S22x23, .f32⟩
  | 29 => ⟨S_, .i32⟩
  | 30 => ⟨S_, .f32⟩
  | 31 => ⟨S24x24, .f32⟩
  | 32 => ⟨S_, .i32⟩
  | 33 => ⟨S_, .f32⟩
  | 34 => ⟨S24x32, .f32⟩
  | 35 => ⟨S1x24x1x32, .f32⟩
  | 36 => ⟨S1x24x4x32, .f32⟩
  | 37 => ⟨S24x128, .f32⟩
  | 38 => ⟨S4x4, .i32⟩
  | 39 => ⟨S4x4, .i32⟩
  | 40 => ⟨S_, .i32⟩
  | 41 => ⟨S4x4, .i32⟩
  | 42 => ⟨S4x4, .i32⟩
  | 43 => ⟨S4x4, .i1⟩
  | 44 => ⟨S4x4, .f32⟩
  | 45 => ⟨S_, .f32⟩
  | 46 => ⟨S1x32, .f32⟩
  | 47 => ⟨S2x32x32, .f32⟩
  | 48 => ⟨S1x32x32, .f32⟩
  | 49 => ⟨S32x32, .f32⟩
  | 50 => ⟨S4x1x4x1, .f32⟩
  | 51 => ⟨S1x32x1x32, .f32⟩
  | 52 => ⟨S4x32x4x32, .f32⟩
  | 53 => ⟨S4x32x4x32, .f32⟩
  | 54 => ⟨S4x32x4x32, .f32⟩
  | 55 => ⟨S128x128, .f32⟩
  | 56 => ⟨S1x32x32, .f32⟩
  | 57 => ⟨S32x32, .f32⟩
  | 58 => ⟨S4x1x4x1, .f32⟩
  | 59 => ⟨S1x32x1x32, .f32⟩
  | 60 => ⟨S4x32x4x32, .f32⟩
  | 61 => ⟨S4x32x4x32, .f32⟩
  | 62 => ⟨S4x32x4x32, .f32⟩
  | 63 => ⟨S128x128, .f32⟩
  | 64 => ⟨S1x128x128, .f32⟩
  | 65 => ⟨S1x128x128, .f32⟩
  | 66 => ⟨S2x128x128, .f32⟩
  | 67 => ⟨S2x128x128, .bf16⟩
  | 68 => ⟨S2x32x32, .f32⟩
  | 69 => ⟨S1x32x32, .f32⟩
  | 70 => ⟨S32x32, .f32⟩
  | 71 => ⟨S4x1x4x1, .f32⟩
  | 72 => ⟨S1x32x1x32, .f32⟩
  | 73 => ⟨S4x32x4x32, .f32⟩
  | 74 => ⟨S4x32x4x32, .f32⟩
  | 75 => ⟨S4x32x4x32, .f32⟩
  | 76 => ⟨S128x128, .f32⟩
  | 77 => ⟨S1x32x32, .f32⟩
  | 78 => ⟨S32x32, .f32⟩
  | 79 => ⟨S4x1x4x1, .f32⟩
  | 80 => ⟨S1x32x1x32, .f32⟩
  | 81 => ⟨S4x32x4x32, .f32⟩
  | 82 => ⟨S4x32x4x32, .f32⟩
  | 83 => ⟨S4x32x4x32, .f32⟩
  | 84 => ⟨S128x128, .f32⟩
  | 85 => ⟨S1x128x128, .f32⟩
  | 86 => ⟨S1x128x128, .f32⟩
  | 87 => ⟨S2x128x128, .f32⟩
  | 88 => ⟨S2x128x128, .bf16⟩
  | 89 => ⟨S2x1x32, .f32⟩
  | 90 => ⟨S2x32, .f32⟩
  | 91 => ⟨S2x1x32, .f32⟩
  | 92 => ⟨S1x2x1x1x1x32, .f32⟩
  | 93 => ⟨S1x2x1x1x4x32, .f32⟩
  | 94 => ⟨S2x1x128, .f32⟩
  | 95 => ⟨S2x1x128, .bf16⟩
  | 96 => ⟨S1x32x32, .f32⟩
  | 97 => ⟨S32x32, .f32⟩
  | 98 => ⟨S4x1x4x1, .f32⟩
  | 99 => ⟨S1x32x1x32, .f32⟩
  | 100 => ⟨S4x32x4x32, .f32⟩
  | 101 => ⟨S4x32x4x32, .f32⟩
  | 102 => ⟨S4x32x4x32, .f32⟩
  | 103 => ⟨S128x128, .f32⟩
  | 104 => ⟨S1x32x32, .f32⟩
  | 105 => ⟨S32x32, .f32⟩
  | 106 => ⟨S4x1x4x1, .f32⟩
  | 107 => ⟨S1x32x1x32, .f32⟩
  | 108 => ⟨S4x32x4x32, .f32⟩
  | 109 => ⟨S4x32x4x32, .f32⟩
  | 110 => ⟨S4x32x4x32, .f32⟩
  | 111 => ⟨S128x128, .f32⟩
  | 112 => ⟨S1x128x128, .f32⟩
  | 113 => ⟨S1x128x128, .f32⟩
  | 114 => ⟨S2x128x128, .f32⟩
  | 115 => ⟨S2x128x128, .bf16⟩
  | 116 => ⟨S1x1x32, .f32⟩
  | 117 => ⟨S2x32x32, .f32⟩
  | 118 => ⟨S2x32x32, .f32⟩
  | 119 => ⟨S2x32x32, .f32⟩
  | 120 => ⟨S1x32x32, .f32⟩
  | 121 => ⟨S32x32, .f32⟩
  | 122 => ⟨S4x1x4x1, .f32⟩
  | 123 => ⟨S1x32x1x32, .f32⟩
  | 124 => ⟨S4x32x4x32, .f32⟩
  | 125 => ⟨S4x32x4x32, .f32⟩
  | 126 => ⟨S4x32x4x32, .f32⟩
  | 127 => ⟨S128x128, .f32⟩
  | _ => ⟨S2048x66, .f32⟩

abbrev hbmTy0_1 (i : Nat) : BufTy := match i % 128 with
  | 0 => ⟨S1x32x32, .f32⟩
  | 1 => ⟨S32x32, .f32⟩
  | 2 => ⟨S4x1x4x1, .f32⟩
  | 3 => ⟨S1x32x1x32, .f32⟩
  | 4 => ⟨S4x32x4x32, .f32⟩
  | 5 => ⟨S4x32x4x32, .f32⟩
  | 6 => ⟨S4x32x4x32, .f32⟩
  | 7 => ⟨S128x128, .f32⟩
  | 8 => ⟨S1x128x128, .f32⟩
  | 9 => ⟨S1x128x128, .f32⟩
  | 10 => ⟨S2x128x128, .f32⟩
  | 11 => ⟨S2x128x128, .bf16⟩
  | 12 => ⟨S1x32x32, .f32⟩
  | 13 => ⟨S32x32, .f32⟩
  | 14 => ⟨S4x1x4x1, .f32⟩
  | 15 => ⟨S1x32x1x32, .f32⟩
  | 16 => ⟨S4x32x4x32, .f32⟩
  | 17 => ⟨S4x32x4x32, .f32⟩
  | 18 => ⟨S4x32x4x32, .f32⟩
  | 19 => ⟨S128x128, .f32⟩
  | 20 => ⟨S1x32x32, .f32⟩
  | 21 => ⟨S32x32, .f32⟩
  | 22 => ⟨S4x1x4x1, .f32⟩
  | 23 => ⟨S1x32x1x32, .f32⟩
  | 24 => ⟨S4x32x4x32, .f32⟩
  | 25 => ⟨S4x32x4x32, .f32⟩
  | 26 => ⟨S4x32x4x32, .f32⟩
  | 27 => ⟨S128x128, .f32⟩
  | 28 => ⟨S1x128x128, .f32⟩
  | 29 => ⟨S1x128x128, .f32⟩
  | 30 => ⟨S2x128x128, .f32⟩
  | 31 => ⟨S2x128x128, .bf16⟩
  | 32 => ⟨S1x1x32, .f32⟩
  | 33 => ⟨S2x32x32, .f32⟩
  | 34 => ⟨S2x32x32, .f32⟩
  | 35 => ⟨S2x32x32, .f32⟩
  | 36 => ⟨S1x32x32, .f32⟩
  | 37 => ⟨S32x32, .f32⟩
  | 38 => ⟨S4x1x4x1, .f32⟩
  | 39 => ⟨S1x32x1x32, .f32⟩
  | 40 => ⟨S4x32x4x32, .f32⟩
  | 41 => ⟨S4x32x4x32, .f32⟩
  | 42 => ⟨S4x32x4x32, .f32⟩
  | 43 => ⟨S128x128, .f32⟩
  | 44 => ⟨S1x32x32, .f32⟩
  | 45 => ⟨S32x32, .f32⟩
  | 46 => ⟨S4x1x4x1, .f32⟩
  | 47 => ⟨S1x32x1x32, .f32⟩
  | 48 => ⟨S4x32x4x32, .f32⟩
  | 49 => ⟨S4x32x4x32, .f32⟩
  | 50 => ⟨S4x32x4x32, .f32⟩
  | 51 => ⟨S128x128, .f32⟩
  | 52 => ⟨S1x128x128, .f32⟩
  | 53 => ⟨S1x128x128, .f32⟩
  | 54 => ⟨S2x128x128, .f32⟩
  | 55 => ⟨S2x128x128, .bf16⟩
  | 56 => ⟨S2x32x32, .f32⟩
  | 57 => ⟨S1x32x32, .f32⟩
  | 58 => ⟨S32x32, .f32⟩
  | 59 => ⟨S4x1x4x1, .f32⟩
  | 60 => ⟨S1x32x1x32, .f32⟩
  | 61 => ⟨S4x32x4x32, .f32⟩
  | 62 => ⟨S4x32x4x32, .f32⟩
  | 63 => ⟨S4x32x4x32, .f32⟩
  | 64 => ⟨S128x128, .f32⟩
  | 65 => ⟨S1x32x32, .f32⟩
  | 66 => ⟨S32x32, .f32⟩
  | 67 => ⟨S4x1x4x1, .f32⟩
  | 68 => ⟨S1x32x1x32, .f32⟩
  | 69 => ⟨S4x32x4x32, .f32⟩
  | 70 => ⟨S4x32x4x32, .f32⟩
  | 71 => ⟨S4x32x4x32, .f32⟩
  | 72 => ⟨S128x128, .f32⟩
  | 73 => ⟨S1x128x128, .f32⟩
  | 74 => ⟨S1x128x128, .f32⟩
  | 75 => ⟨S2x128x128, .f32⟩
  | 76 => ⟨S2x128x128, .bf16⟩
  | 77 => ⟨S2x32x32, .f32⟩
  | 78 => ⟨S1x32x32, .f32⟩
  | 79 => ⟨S32x32, .f32⟩
  | 80 => ⟨S4x1x4x1, .f32⟩
  | 81 => ⟨S1x32x1x32, .f32⟩
  | 82 => ⟨S4x32x4x32, .f32⟩
  | 83 => ⟨S4x32x4x32, .f32⟩
  | 84 => ⟨S4x32x4x32, .f32⟩
  | 85 => ⟨S128x128, .f32⟩
  | 86 => ⟨S1x32x32, .f32⟩
  | 87 => ⟨S32x32, .f32⟩
  | 88 => ⟨S4x1x4x1, .f32⟩
  | 89 => ⟨S1x32x1x32, .f32⟩
  | 90 => ⟨S4x32x4x32, .f32⟩
  | 91 => ⟨S4x32x4x32, .f32⟩
  | 92 => ⟨S4x32x4x32, .f32⟩
  | 93 => ⟨S128x128, .f32⟩
  | 94 => ⟨S1x128x128, .f32⟩
  | 95 => ⟨S1x128x128, .f32⟩
  | 96 => ⟨S2x128x128, .f32⟩
  | 97 => ⟨S2x128x128, .bf16⟩
  | 98 => ⟨S1x32x32, .f32⟩
  | 99 => ⟨S32x32, .f32⟩
  | 100 => ⟨S4x1x4x1, .f32⟩
  | 101 => ⟨S1x32x1x32, .f32⟩
  | 102 => ⟨S4x32x4x32, .f32⟩
  | 103 => ⟨S4x32x4x32, .f32⟩
  | 104 => ⟨S4x32x4x32, .f32⟩
  | 105 => ⟨S128x128, .f32⟩
  | 106 => ⟨S1x32x32, .f32⟩
  | 107 => ⟨S32x32, .f32⟩
  | 108 => ⟨S4x1x4x1, .f32⟩
  | 109 => ⟨S1x32x1x32, .f32⟩
  | 110 => ⟨S4x32x4x32, .f32⟩
  | 111 => ⟨S4x32x4x32, .f32⟩
  | 112 => ⟨S4x32x4x32, .f32⟩
  | 113 => ⟨S128x128, .f32⟩
  | 114 => ⟨S1x128x128, .f32⟩
  | 115 => ⟨S1x128x128, .f32⟩
  | 116 => ⟨S2x128x128, .f32⟩
  | 117 => ⟨S2x128x128, .bf16⟩
  | 118 => ⟨S_, .f32⟩
  | 119 => ⟨S3x32, .f32⟩
  | 120 => ⟨S_, .f32⟩
  | 121 => ⟨S29x32, .f32⟩
  | 122 => ⟨S32x32, .f32⟩
  | 123 => ⟨S4x1x4x1, .f32⟩
  | 124 => ⟨S1x32x1x32, .f32⟩
  | 125 => ⟨S4x32x4x32, .f32⟩
  | 126 => ⟨S4x32x4x32, .f32⟩
  | 127 => ⟨S4x32x4x32, .f32⟩
  | _ => ⟨S2048x66, .f32⟩

abbrev hbmTy0_2 (i : Nat) : BufTy := match i % 128 with
  | 0 => ⟨S128x128, .f32⟩
  | 1 => ⟨S128x128, .bf16⟩
  | 2 => ⟨S24x24, .bf16⟩
  | 3 => ⟨S24x128, .bf16⟩
  | 4 => ⟨S12288x128, .f32⟩
  | 5 => ⟨S512x24x4x32, .f32⟩
  | 6 => ⟨S512x4x24x32, .f32⟩
  | 7 => ⟨S512x4x22x3, .f32⟩
  | 8 => ⟨S2048x66, .f32⟩
  | 9 => ⟨S_, .f32⟩
  | 10 => ⟨S2048x66, .f32⟩
  | 11 => ⟨S2048x132, .f32⟩
  | _ => ⟨S2048x66, .f32⟩

abbrev hbmTy (i : Nat) : BufTy := match i / 128 with
  | 0 => hbmTy0_0 i
  | 1 => hbmTy0_1 i
  | 2 => hbmTy0_2 i
  | _ => ⟨S2048x66, .f32⟩

abbrev bufTy : (tb : Table) → Fin (tcTables nBuf tb) → BufTy
  | .hbm, ⟨i, _⟩ => hbmTy i
  | .local _ .vmem, ⟨0, _⟩ => ⟨S384x128, .f32⟩
  | .local _ .vmem, ⟨1, _⟩ => ⟨S384x128, .f32⟩
  | .local _ .vmem, ⟨2, _⟩ => ⟨S24x24, .bf16⟩
  | .local _ .vmem, ⟨3, _⟩ => ⟨S24x128, .bf16⟩
  | .local _ .vmem, ⟨4, _⟩ => ⟨S2x128x128, .bf16⟩
  | .local _ .vmem, ⟨5, _⟩ => ⟨S2x128x128, .bf16⟩
  | .local _ .vmem, ⟨6, _⟩ => ⟨S2x1x128, .bf16⟩
  | .local _ .vmem, ⟨7, _⟩ => ⟨S2x128x128, .bf16⟩
  | .local _ .vmem, ⟨8, _⟩ => ⟨S2x128x128, .bf16⟩
  | .local _ .vmem, ⟨9, _⟩ => ⟨S2x128x128, .bf16⟩
  | .local _ .vmem, ⟨10, _⟩ => ⟨S2x128x128, .bf16⟩
  | .local _ .vmem, ⟨11, _⟩ => ⟨S2x128x128, .bf16⟩
  | .local _ .vmem, ⟨12, _⟩ => ⟨S2x128x128, .bf16⟩
  | .local _ .vmem, ⟨13, _⟩ => ⟨S2x128x128, .bf16⟩
  | .local _ .vmem, ⟨14, _⟩ => ⟨S128x128, .bf16⟩
  | .local _ .vmem, ⟨15, _⟩ => ⟨S384x128, .f32⟩
  | .local _ .vmem, ⟨16, _⟩ => ⟨S384x128, .f32⟩
  | _, _ => ⟨S2048x66, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_call0_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c_0 : Ref sig .tc := ⟨.hbm, 29, rfl⟩
abbrev main_call1_v0 : Ref sig .tc := ⟨.hbm, 30, rfl⟩
abbrev main_v8 : Ref sig .tc := ⟨.hbm, 31, rfl⟩
abbrev main_c_1 : Ref sig .tc := ⟨.hbm, 32, rfl⟩
abbrev main_call2_v0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c_2 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_call4_v3 : Ref sig .tc := ⟨.hbm, 61, rfl⟩
abbrev main_call4_v4 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_call5_v0 : Ref sig .tc := ⟨.hbm, 71, rfl⟩
abbrev main_call5_v1 : Ref sig .tc := ⟨.hbm, 72, rfl⟩
abbrev main_call5_v2 : Ref sig .tc := ⟨.hbm, 73, rfl⟩
abbrev main_call5_v3 : Ref sig .tc := ⟨.hbm, 74, rfl⟩
abbrev main_call5_v4 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_call6_v0 : Ref sig .tc := ⟨.hbm, 79, rfl⟩
abbrev main_call6_v1 : Ref sig .tc := ⟨.hbm, 80, rfl⟩
abbrev main_call6_v2 : Ref sig .tc := ⟨.hbm, 81, rfl⟩
abbrev main_call6_v3 : Ref sig .tc := ⟨.hbm, 82, rfl⟩
abbrev main_call6_v4 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_call7_v0 : Ref sig .tc := ⟨.hbm, 98, rfl⟩
abbrev main_call7_v1 : Ref sig .tc := ⟨.hbm, 99, rfl⟩
abbrev main_call7_v2 : Ref sig .tc := ⟨.hbm, 100, rfl⟩
abbrev main_call7_v3 : Ref sig .tc := ⟨.hbm, 101, rfl⟩
abbrev main_call7_v4 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_call8_v0 : Ref sig .tc := ⟨.hbm, 106, rfl⟩
abbrev main_call8_v1 : Ref sig .tc := ⟨.hbm, 107, rfl⟩
abbrev main_call8_v2 : Ref sig .tc := ⟨.hbm, 108, rfl⟩
abbrev main_call8_v3 : Ref sig .tc := ⟨.hbm, 109, rfl⟩
abbrev main_call8_v4 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_call9_v0 : Ref sig .tc := ⟨.hbm, 122, rfl⟩
abbrev main_call9_v1 : Ref sig .tc := ⟨.hbm, 123, rfl⟩
abbrev main_call9_v2 : Ref sig .tc := ⟨.hbm, 124, rfl⟩
abbrev main_call9_v3 : Ref sig .tc := ⟨.hbm, 125, rfl⟩
abbrev main_call9_v4 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_call10_v0 : Ref sig .tc := ⟨.hbm, 130, rfl⟩
abbrev main_call10_v1 : Ref sig .tc := ⟨.hbm, 131, rfl⟩
abbrev main_call10_v2 : Ref sig .tc := ⟨.hbm, 132, rfl⟩
abbrev main_call10_v3 : Ref sig .tc := ⟨.hbm, 133, rfl⟩
abbrev main_call10_v4 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_call11_v0 : Ref sig .tc := ⟨.hbm, 142, rfl⟩
abbrev main_call11_v1 : Ref sig .tc := ⟨.hbm, 143, rfl⟩
abbrev main_call11_v2 : Ref sig .tc := ⟨.hbm, 144, rfl⟩
abbrev main_call11_v3 : Ref sig .tc := ⟨.hbm, 145, rfl⟩
abbrev main_call11_v4 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_call12_v0 : Ref sig .tc := ⟨.hbm, 150, rfl⟩
abbrev main_call12_v1 : Ref sig .tc := ⟨.hbm, 151, rfl⟩
abbrev main_call12_v2 : Ref sig .tc := ⟨.hbm, 152, rfl⟩
abbrev main_call12_v3 : Ref sig .tc := ⟨.hbm, 153, rfl⟩
abbrev main_call12_v4 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_call13_v0 : Ref sig .tc := ⟨.hbm, 166, rfl⟩
abbrev main_call13_v1 : Ref sig .tc := ⟨.hbm, 167, rfl⟩
abbrev main_call13_v2 : Ref sig .tc := ⟨.hbm, 168, rfl⟩
abbrev main_call13_v3 : Ref sig .tc := ⟨.hbm, 169, rfl⟩
abbrev main_call13_v4 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_call14_v0 : Ref sig .tc := ⟨.hbm, 174, rfl⟩
abbrev main_call14_v1 : Ref sig .tc := ⟨.hbm, 175, rfl⟩
abbrev main_call14_v2 : Ref sig .tc := ⟨.hbm, 176, rfl⟩
abbrev main_call14_v3 : Ref sig .tc := ⟨.hbm, 177, rfl⟩
abbrev main_call14_v4 : Ref sig .tc := ⟨.hbm, 178, rfl⟩
abbrev main_v92 : Ref sig .tc := ⟨.hbm, 179, rfl⟩
abbrev main_v93 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_call15_v0 : Ref sig .tc := ⟨.hbm, 187, rfl⟩
abbrev main_call15_v1 : Ref sig .tc := ⟨.hbm, 188, rfl⟩
abbrev main_call15_v2 : Ref sig .tc := ⟨.hbm, 189, rfl⟩
abbrev main_call15_v3 : Ref sig .tc := ⟨.hbm, 190, rfl⟩
abbrev main_call15_v4 : Ref sig .tc := ⟨.hbm, 191, rfl⟩
abbrev main_v100 : Ref sig .tc := ⟨.hbm, 192, rfl⟩
abbrev main_v101 : Ref sig .tc := ⟨.hbm, 193, rfl⟩
abbrev main_v102 : Ref sig .tc := ⟨.hbm, 194, rfl⟩
abbrev main_call16_v0 : Ref sig .tc := ⟨.hbm, 195, rfl⟩
abbrev main_call16_v1 : Ref sig .tc := ⟨.hbm, 196, rfl⟩
abbrev main_call16_v2 : Ref sig .tc := ⟨.hbm, 197, rfl⟩
abbrev main_call16_v3 : Ref sig .tc := ⟨.hbm, 198, rfl⟩
abbrev main_call16_v4 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev main_v108 : Ref sig .tc := ⟨.hbm, 205, rfl⟩
abbrev main_v109 : Ref sig .tc := ⟨.hbm, 206, rfl⟩
abbrev main_v110 : Ref sig .tc := ⟨.hbm, 207, rfl⟩
abbrev main_call17_v0 : Ref sig .tc := ⟨.hbm, 208, rfl⟩
abbrev main_call17_v1 : Ref sig .tc := ⟨.hbm, 209, rfl⟩
abbrev main_call17_v2 : Ref sig .tc := ⟨.hbm, 210, rfl⟩
abbrev main_call17_v3 : Ref sig .tc := ⟨.hbm, 211, rfl⟩
abbrev main_call17_v4 : Ref sig .tc := ⟨.hbm, 212, rfl⟩
abbrev main_v111 : Ref sig .tc := ⟨.hbm, 213, rfl⟩
abbrev main_v112 : Ref sig .tc := ⟨.hbm, 214, rfl⟩
abbrev main_v113 : Ref sig .tc := ⟨.hbm, 215, rfl⟩
abbrev main_call18_v0 : Ref sig .tc := ⟨.hbm, 216, rfl⟩
abbrev main_call18_v1 : Ref sig .tc := ⟨.hbm, 217, rfl⟩
abbrev main_call18_v2 : Ref sig .tc := ⟨.hbm, 218, rfl⟩
abbrev main_call18_v3 : Ref sig .tc := ⟨.hbm, 219, rfl⟩
abbrev main_call18_v4 : Ref sig .tc := ⟨.hbm, 220, rfl⟩
abbrev main_v114 : Ref sig .tc := ⟨.hbm, 221, rfl⟩
abbrev main_v115 : Ref sig .tc := ⟨.hbm, 222, rfl⟩
abbrev main_v116 : Ref sig .tc := ⟨.hbm, 223, rfl⟩
abbrev main_v117 : Ref sig .tc := ⟨.hbm, 224, rfl⟩
abbrev main_v118 : Ref sig .tc := ⟨.hbm, 225, rfl⟩
abbrev main_v119 : Ref sig .tc := ⟨.hbm, 226, rfl⟩
abbrev main_v120 : Ref sig .tc := ⟨.hbm, 227, rfl⟩
abbrev main_call19_v0 : Ref sig .tc := ⟨.hbm, 228, rfl⟩
abbrev main_call19_v1 : Ref sig .tc := ⟨.hbm, 229, rfl⟩
abbrev main_call19_v2 : Ref sig .tc := ⟨.hbm, 230, rfl⟩
abbrev main_call19_v3 : Ref sig .tc := ⟨.hbm, 231, rfl⟩
abbrev main_call19_v4 : Ref sig .tc := ⟨.hbm, 232, rfl⟩
abbrev main_v121 : Ref sig .tc := ⟨.hbm, 233, rfl⟩
abbrev main_v122 : Ref sig .tc := ⟨.hbm, 234, rfl⟩
abbrev main_v123 : Ref sig .tc := ⟨.hbm, 235, rfl⟩
abbrev main_call20_v0 : Ref sig .tc := ⟨.hbm, 236, rfl⟩
abbrev main_call20_v1 : Ref sig .tc := ⟨.hbm, 237, rfl⟩
abbrev main_call20_v2 : Ref sig .tc := ⟨.hbm, 238, rfl⟩
abbrev main_call20_v3 : Ref sig .tc := ⟨.hbm, 239, rfl⟩
abbrev main_call20_v4 : Ref sig .tc := ⟨.hbm, 240, rfl⟩
abbrev main_v124 : Ref sig .tc := ⟨.hbm, 241, rfl⟩
abbrev main_v125 : Ref sig .tc := ⟨.hbm, 242, rfl⟩
abbrev main_v126 : Ref sig .tc := ⟨.hbm, 243, rfl⟩
abbrev main_v127 : Ref sig .tc := ⟨.hbm, 244, rfl⟩
abbrev main_v128 : Ref sig .tc := ⟨.hbm, 245, rfl⟩
abbrev main_cst_3 : Ref sig .tc := ⟨.hbm, 246, rfl⟩
abbrev main_v129 : Ref sig .tc := ⟨.hbm, 247, rfl⟩
abbrev main_cst_4 : Ref sig .tc := ⟨.hbm, 248, rfl⟩
abbrev main_v130 : Ref sig .tc := ⟨.hbm, 249, rfl⟩
abbrev main_v131 : Ref sig .tc := ⟨.hbm, 250, rfl⟩
abbrev main_call21_v0 : Ref sig .tc := ⟨.hbm, 251, rfl⟩
abbrev main_call21_v1 : Ref sig .tc := ⟨.hbm, 252, rfl⟩
abbrev main_call21_v2 : Ref sig .tc := ⟨.hbm, 253, rfl⟩
abbrev main_call21_v3 : Ref sig .tc := ⟨.hbm, 254, rfl⟩
abbrev main_call21_v4 : Ref sig .tc := ⟨.hbm, 255, rfl⟩
abbrev main_v132 : Ref sig .tc := ⟨.hbm, 256, rfl⟩
abbrev main_v133 : Ref sig .tc := ⟨.hbm, 257, rfl⟩
abbrev main_v134 : Ref sig .tc := ⟨.hbm, 258, rfl⟩
abbrev main_v135 : Ref sig .tc := ⟨.hbm, 259, rfl⟩
abbrev main_v136 : Ref sig .tc := ⟨.hbm, 260, rfl⟩
abbrev main_v137 : Ref sig .tc := ⟨.hbm, 261, rfl⟩
abbrev main_v138 : Ref sig .tc := ⟨.hbm, 262, rfl⟩
abbrev main_v139 : Ref sig .tc := ⟨.hbm, 263, rfl⟩
abbrev main_v140 : Ref sig .tc := ⟨.hbm, 264, rfl⟩
abbrev main_cst_5 : Ref sig .tc := ⟨.hbm, 265, rfl⟩
abbrev main_v141 : Ref sig .tc := ⟨.hbm, 266, rfl⟩
abbrev main_v142 : Ref sig .tc := ⟨.hbm, 267, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x24 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S24x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S384x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S2048x66 : Shape := ⟨2, ![2048, 66]⟩
abbrev S1 : Shape := ⟨1, ![1]⟩
abbrev S22x22 : Shape := ⟨2, ![22, 22]⟩
abbrev S23x32 : Shape := ⟨2, ![23, 32]⟩
abbrev S32 : Shape := ⟨1, ![32]⟩
abbrev S2x65x32 : Shape := ⟨3, ![2, 65, 32]⟩
abbrev S2x32 : Shape := ⟨2, ![2, 32]⟩
abbrev S2x32x32 : Shape := ⟨3, ![2, 32, 32]⟩
abbrev S2x32x1 : Shape := ⟨3, ![2, 32, 1]⟩
abbrev S2x1 : Shape := ⟨2, ![2, 1]⟩
abbrev S2x64x32 : Shape := ⟨3, ![2, 64, 32]⟩
abbrev S462 : Shape := ⟨1, ![462]⟩
abbrev S45056x3 : Shape := ⟨2, ![45056, 3]⟩
abbrev S1x22x1x22 : Shape := ⟨4, ![1, 22, 1, 22]⟩
abbrev S2048x22x1x22 : Shape := ⟨4, ![2048, 22, 1, 22]⟩
abbrev S45056x22 : Shape := ⟨2, ![45056, 22]⟩
abbrev S1x1 : Shape := ⟨2, ![1, 1]⟩
abbrev S45056x1 : Shape := ⟨2, ![45056, 1]⟩
abbrev S45056x23 : Shape := ⟨2, ![45056, 23]⟩
abbrev S45056x32 : Shape := ⟨2, ![45056, 32]⟩
abbrev S1x32 : Shape := ⟨2, ![1, 32]⟩
abbrev S2048 : Shape := ⟨1, ![2048]⟩
abbrev S_ : Shape := ⟨0, ![]⟩
abbrev S2048x1 : Shape := ⟨2, ![2048, 1]⟩
abbrev S1x462 : Shape := ⟨2, ![1, 462]⟩
abbrev S2048x462 : Shape := ⟨2, ![2048, 462]⟩
abbrev S946176 : Shape := ⟨1, ![946176]⟩
abbrev S946176x1 : Shape := ⟨2, ![946176, 1]⟩
abbrev S946176x3 : Shape := ⟨2, ![946176, 3]⟩
abbrev S946176x32 : Shape := ⟨2, ![946176, 32]⟩
abbrev S946176x65 : Shape := ⟨2, ![946176, 65]⟩
abbrev S1x65x32 : Shape := ⟨3, ![1, 65, 32]⟩
abbrev S65x32 : Shape := ⟨2, ![65, 32]⟩
abbrev S1x32x32 : Shape := ⟨3, ![1, 32, 32]⟩
abbrev S32x32 : Shape := ⟨2, ![32, 32]⟩
abbrev S1x32x1 : Shape := ⟨3, ![1, 32, 1]⟩
abbrev S32x1 : Shape := ⟨2, ![32, 1]⟩
abbrev S45056x64 : Shape := ⟨2, ![45056, 64]⟩
abbrev S1x64x32 : Shape := ⟨3, ![1, 64, 32]⟩
abbrev S64x32 : Shape := ⟨2, ![64, 32]⟩
abbrev S2048x132 : Shape := ⟨2, ![2048, 132]⟩

abbrev nBuf : Space → Nat
  | .hbm => 386
  | .vmem => 0
  | .smem => 0
  | _ => 0

abbrev hbmTy0_0 (i : Nat) : BufTy := match i % 128 with
  | 0 => ⟨S2048x66, .f32⟩
  | 1 => ⟨S1, .f32⟩
  | 2 => ⟨S22x22, .f32⟩
  | 3 => ⟨S23x32, .f32⟩
  | 4 => ⟨S32, .f32⟩
  | 5 => ⟨S2x65x32, .f32⟩
  | 6 => ⟨S2x32, .f32⟩
  | 7 => ⟨S2x32x32, .f32⟩
  | 8 => ⟨S2x32, .f32⟩
  | 9 => ⟨S2x32x1, .f32⟩
  | 10 => ⟨S2x1, .f32⟩
  | 11 => ⟨S2x64x32, .f32⟩
  | 12 => ⟨S2x32, .f32⟩
  | 13 => ⟨S2x32x32, .f32⟩
  | 14 => ⟨S2x32, .f32⟩
  | 15 => ⟨S2x32x32, .f32⟩
  | 16 => ⟨S2x32, .f32⟩
  | 17 => ⟨S2x32x1, .f32⟩
  | 18 => ⟨S2x1, .f32⟩
  | 19 => ⟨S462, .i32⟩
  | 20 => ⟨S462, .i32⟩
  | 21 => ⟨S45056x3, .f32⟩
  | 22 => ⟨S1x22x1x22, .f32⟩
  | 23 => ⟨S2048x22x1x22, .f32⟩
  | 24 => ⟨S45056x22, .f32⟩
  | 25 => ⟨S1x1, .f32⟩
  | 26 => ⟨S45056x1, .f32⟩
  | 27 => ⟨S45056x23, .f32⟩
  | 28 => ⟨S45056x32, .f32⟩
  | 29 => ⟨S1x32, .f32⟩
  | 30 => ⟨S45056x32, .f32⟩
  | 31 => ⟨S45056x32, .f32⟩
  | 32 => ⟨S2048, .i32⟩
  | 33 => ⟨S_, .i32⟩
  | 34 => ⟨S2048, .i32⟩
  | 35 => ⟨S2048, .i32⟩
  | 36 => ⟨S2048x1, .i32⟩
  | 37 => ⟨S1x462, .i32⟩
  | 38 => ⟨S2048x462, .i32⟩
  | 39 => ⟨S2048x462, .i32⟩
  | 40 => ⟨S2048x462, .i32⟩
  | 41 => ⟨S946176, .i32⟩
  | 42 => ⟨S1x462, .i32⟩
  | 43 => ⟨S2048x462, .i32⟩
  | 44 => ⟨S2048x462, .i32⟩
  | 45 => ⟨S2048x462, .i32⟩
  | 46 => ⟨S946176, .i32⟩
  | 47 => ⟨S_, .i32⟩
  | 48 => ⟨S946176, .i32⟩
  | 49 => ⟨S946176, .i1⟩
  | 50 => ⟨S_, .i32⟩
  | 51 => ⟨S946176, .i32⟩
  | 52 => ⟨S946176, .i32⟩
  | 53 => ⟨S946176, .i32⟩
  | 54 => ⟨S946176x1, .i32⟩
  | 55 => ⟨S946176x3, .f32⟩
  | 56 => ⟨S_, .i32⟩
  | 57 => ⟨S946176, .i32⟩
  | 58 => ⟨S946176, .i1⟩
  | 59 => ⟨S_, .i32⟩
  | 60 => ⟨S946176, .i32⟩
  | 61 => ⟨S946176, .i32⟩
  | 62 => ⟨S946176, .i32⟩
  | 63 => ⟨S946176x1, .i32⟩
  | 64 => ⟨S946176x3, .f32⟩
  | 65 => ⟨S946176x3, .f32⟩
  | 66 => ⟨S946176x3, .f32⟩
  | 67 => ⟨S_, .f32⟩
  | 68 => ⟨S946176, .f32⟩
  | 69 => ⟨S946176x1, .f32⟩
  | 70 => ⟨S_, .f32⟩
  | 71 => ⟨S946176x1, .f32⟩
  | 72 => ⟨S946176x1, .f32⟩
  | 73 => ⟨S946176x1, .f32⟩
  | 74 => ⟨S_, .f32⟩
  | 75 => ⟨S946176x1, .f32⟩
  | 76 => ⟨S946176x1, .f32⟩
  | 77 => ⟨S946176x3, .f32⟩
  | 78 => ⟨S946176x3, .f32⟩
  | 79 => ⟨S_, .i32⟩
  | 80 => ⟨S946176, .i32⟩
  | 81 => ⟨S946176, .i1⟩
  | 82 => ⟨S_, .i32⟩
  | 83 => ⟨S946176, .i32⟩
  | 84 => ⟨S946176, .i32⟩
  | 85 => ⟨S946176, .i32⟩
  | 86 => ⟨S946176x1, .i32⟩
  | 87 => ⟨S946176x32, .f32⟩
  | 88 => ⟨S_, .i32⟩
  | 89 => ⟨S946176, .i32⟩
  | 90 => ⟨S946176, .i1⟩
  | 91 => ⟨S_, .i32⟩
  | 92 => ⟨S946176, .i32⟩
  | 93 => ⟨S946176, .i32⟩
  | 94 => ⟨S946176, .i32⟩
  | 95 => ⟨S946176x1, .i32⟩
  | 96 => ⟨S946176x32, .f32⟩
  | 97 => ⟨S946176x65, .f32⟩
  | 98 => ⟨S1x65x32, .f32⟩
  | 99 => ⟨S65x32, .f32⟩
  | 100 => ⟨S946176x32, .f32⟩
  | 101 => ⟨S1x32, .f32⟩
  | 102 => ⟨S32, .f32⟩
  | 103 => ⟨S1x32, .f32⟩
  | 104 => ⟨S946176x32, .f32⟩
  | 105 => ⟨S946176x32, .f32⟩
  | 106 => ⟨S946176x32, .f32⟩
  | 107 => ⟨S946176x32, .f32⟩
  | 108 => ⟨S_, .f32⟩
  | 109 => ⟨S946176x32, .f32⟩
  | 110 => ⟨S946176x32, .f32⟩
  | 111 => ⟨S_, .f32⟩
  | 112 => ⟨S946176x32, .f32⟩
  | 113 => ⟨S946176x32, .f32⟩
  | 114 => ⟨S946176x32, .f32⟩
  | 115 => ⟨S1x32x32, .f32⟩
  | 116 => ⟨S32x32, .f32⟩
  | 117 => ⟨S946176x32, .f32⟩
  | 118 => ⟨S1x32, .f32⟩
  | 119 => ⟨S32, .f32⟩
  | 120 => ⟨S1x32, .f32⟩
  | 121 => ⟨S946176x32, .f32⟩
  | 122 => ⟨S946176x32, .f32⟩
  | 123 => ⟨S946176x32, .f32⟩
  | 124 => ⟨S946176x32, .f32⟩
  | 125 => ⟨S_, .f32⟩
  | 126 => ⟨S946176x32, .f32⟩
  | 127 => ⟨S946176x32, .f32⟩
  | _ => ⟨S2048x66, .f32⟩

abbrev hbmTy0_1 (i : Nat) : BufTy := match i % 128 with
  | 0 => ⟨S_, .f32⟩
  | 1 => ⟨S946176x32, .f32⟩
  | 2 => ⟨S946176x32, .f32⟩
  | 3 => ⟨S946176x32, .f32⟩
  | 4 => ⟨S1x32x1, .f32⟩
  | 5 => ⟨S32x1, .f32⟩
  | 6 => ⟨S946176x1, .f32⟩
  | 7 => ⟨S1x1, .f32⟩
  | 8 => ⟨S1, .f32⟩
  | 9 => ⟨S1x1, .f32⟩
  | 10 => ⟨S946176x1, .f32⟩
  | 11 => ⟨S946176x1, .f32⟩
  | 12 => ⟨S946176x1, .f32⟩
  | 13 => ⟨S946176x1, .f32⟩
  | 14 => ⟨S_, .f32⟩
  | 15 => ⟨S946176x1, .f32⟩
  | 16 => ⟨S946176x1, .f32⟩
  | 17 => ⟨S_, .f32⟩
  | 18 => ⟨S946176x1, .f32⟩
  | 19 => ⟨S946176x1, .f32⟩
  | 20 => ⟨S946176x32, .f32⟩
  | 21 => ⟨S946176x32, .f32⟩
  | 22 => ⟨S1x32x32, .f32⟩
  | 23 => ⟨S32x32, .f32⟩
  | 24 => ⟨S946176x32, .f32⟩
  | 25 => ⟨S1x32, .f32⟩
  | 26 => ⟨S32, .f32⟩
  | 27 => ⟨S1x32, .f32⟩
  | 28 => ⟨S946176x32, .f32⟩
  | 29 => ⟨S946176x32, .f32⟩
  | 30 => ⟨S946176x32, .f32⟩
  | 31 => ⟨S946176x32, .f32⟩
  | 32 => ⟨S_, .f32⟩
  | 33 => ⟨S946176x32, .f32⟩
  | 34 => ⟨S946176x32, .f32⟩
  | 35 => ⟨S_, .f32⟩
  | 36 => ⟨S946176x32, .f32⟩
  | 37 => ⟨S946176x32, .f32⟩
  | 38 => ⟨S946176x32, .f32⟩
  | 39 => ⟨S1x32x1, .f32⟩
  | 40 => ⟨S32x1, .f32⟩
  | 41 => ⟨S946176x1, .f32⟩
  | 42 => ⟨S1x1, .f32⟩
  | 43 => ⟨S1, .f32⟩
  | 44 => ⟨S1x1, .f32⟩
  | 45 => ⟨S946176x1, .f32⟩
  | 46 => ⟨S946176x1, .f32⟩
  | 47 => ⟨S946176x1, .f32⟩
  | 48 => ⟨S946176x3, .f32⟩
  | 49 => ⟨S946176x3, .f32⟩
  | 50 => ⟨S_, .f32⟩
  | 51 => ⟨S45056x3, .f32⟩
  | 52 => ⟨S946176x1, .i32⟩
  | 53 => ⟨S45056x3, .f32⟩
  | 54 => ⟨S45056x3, .f32⟩
  | 55 => ⟨S_, .f32⟩
  | 56 => ⟨S45056x32, .f32⟩
  | 57 => ⟨S946176x1, .i32⟩
  | 58 => ⟨S45056x32, .f32⟩
  | 59 => ⟨S45056x64, .f32⟩
  | 60 => ⟨S1x64x32, .f32⟩
  | 61 => ⟨S64x32, .f32⟩
  | 62 => ⟨S45056x32, .f32⟩
  | 63 => ⟨S1x32, .f32⟩
  | 64 => ⟨S32, .f32⟩
  | 65 => ⟨S1x32, .f32⟩
  | 66 => ⟨S45056x32, .f32⟩
  | 67 => ⟨S45056x32, .f32⟩
  | 68 => ⟨S45056x32, .f32⟩
  | 69 => ⟨S45056x32, .f32⟩
  | 70 => ⟨S_, .f32⟩
  | 71 => ⟨S45056x32, .f32⟩
  | 72 => ⟨S45056x32, .f32⟩
  | 73 => ⟨S_, .f32⟩
  | 74 => ⟨S45056x32, .f32⟩
  | 75 => ⟨S45056x32, .f32⟩
  | 76 => ⟨S45056x32, .f32⟩
  | 77 => ⟨S1x32x32, .f32⟩
  | 78 => ⟨S32x32, .f32⟩
  | 79 => ⟨S45056x32, .f32⟩
  | 80 => ⟨S1x32, .f32⟩
  | 81 => ⟨S32, .f32⟩
  | 82 => ⟨S1x32, .f32⟩
  | 83 => ⟨S45056x32, .f32⟩
  | 84 => ⟨S45056x32, .f32⟩
  | 85 => ⟨S45056x32, .f32⟩
  | 86 => ⟨S_, .i32⟩
  | 87 => ⟨S946176, .i32⟩
  | 88 => ⟨S946176, .i1⟩
  | 89 => ⟨S_, .i32⟩
  | 90 => ⟨S946176, .i32⟩
  | 91 => ⟨S946176, .i32⟩
  | 92 => ⟨S946176, .i32⟩
  | 93 => ⟨S946176x1, .i32⟩
  | 94 => ⟨S946176x3, .f32⟩
  | 95 => ⟨S_, .i32⟩
  | 96 => ⟨S946176, .i32⟩
  | 97 => ⟨S946176, .i1⟩
  | 98 => ⟨S_, .i32⟩
  | 99 => ⟨S946176, .i32⟩
  | 100 => ⟨S946176, .i32⟩
  | 101 => ⟨S946176, .i32⟩
  | 102 => ⟨S946176x1, .i32⟩
  | 103 => ⟨S946176x3, .f32⟩
  | 104 => ⟨S946176x3, .f32⟩
  | 105 => ⟨S946176x3, .f32⟩
  | 106 => ⟨S_, .f32⟩
  | 107 => ⟨S946176, .f32⟩
  | 108 => ⟨S946176x1, .f32⟩
  | 109 => ⟨S_, .f32⟩
  | 110 => ⟨S946176x1, .f32⟩
  | 111 => ⟨S946176x1, .f32⟩
  | 112 => ⟨S946176x1, .f32⟩
  | 113 => ⟨S_, .f32⟩
  | 114 => ⟨S946176x1, .f32⟩
  | 115 => ⟨S946176x1, .f32⟩
  | 116 => ⟨S946176x3, .f32⟩
  | 117 => ⟨S946176x3, .f32⟩
  | 118 => ⟨S_, .i32⟩
  | 119 => ⟨S946176, .i32⟩
  | 120 => ⟨S946176, .i1⟩
  | 121 => ⟨S_, .i32⟩
  | 122 => ⟨S946176, .i32⟩
  | 123 => ⟨S946176, .i32⟩
  | 124 => ⟨S946176, .i32⟩
  | 125 => ⟨S946176x1, .i32⟩
  | 126 => ⟨S946176x32, .f32⟩
  | 127 => ⟨S_, .i32⟩
  | _ => ⟨S2048x66, .f32⟩

abbrev hbmTy0_2 (i : Nat) : BufTy := match i % 128 with
  | 0 => ⟨S946176, .i32⟩
  | 1 => ⟨S946176, .i1⟩
  | 2 => ⟨S_, .i32⟩
  | 3 => ⟨S946176, .i32⟩
  | 4 => ⟨S946176, .i32⟩
  | 5 => ⟨S946176, .i32⟩
  | 6 => ⟨S946176x1, .i32⟩
  | 7 => ⟨S946176x32, .f32⟩
  | 8 => ⟨S946176x65, .f32⟩
  | 9 => ⟨S1x65x32, .f32⟩
  | 10 => ⟨S65x32, .f32⟩
  | 11 => ⟨S946176x32, .f32⟩
  | 12 => ⟨S1x32, .f32⟩
  | 13 => ⟨S32, .f32⟩
  | 14 => ⟨S1x32, .f32⟩
  | 15 => ⟨S946176x32, .f32⟩
  | 16 => ⟨S946176x32, .f32⟩
  | 17 => ⟨S946176x32, .f32⟩
  | 18 => ⟨S946176x32, .f32⟩
  | 19 => ⟨S_, .f32⟩
  | 20 => ⟨S946176x32, .f32⟩
  | 21 => ⟨S946176x32, .f32⟩
  | 22 => ⟨S_, .f32⟩
  | 23 => ⟨S946176x32, .f32⟩
  | 24 => ⟨S946176x32, .f32⟩
  | 25 => ⟨S946176x32, .f32⟩
  | 26 => ⟨S1x32x32, .f32⟩
  | 27 => ⟨S32x32, .f32⟩
  | 28 => ⟨S946176x32, .f32⟩
  | 29 => ⟨S1x32, .f32⟩
  | 30 => ⟨S32, .f32⟩
  | 31 => ⟨S1x32, .f32⟩
  | 32 => ⟨S946176x32, .f32⟩
  | 33 => ⟨S946176x32, .f32⟩
  | 34 => ⟨S946176x32, .f32⟩
  | 35 => ⟨S946176x32, .f32⟩
  | 36 => ⟨S_, .f32⟩
  | 37 => ⟨S946176x32, .f32⟩
  | 38 => ⟨S946176x32, .f32⟩
  | 39 => ⟨S_, .f32⟩
  | 40 => ⟨S946176x32, .f32⟩
  | 41 => ⟨S946176x32, .f32⟩
  | 42 => ⟨S946176x32, .f32⟩
  | 43 => ⟨S1x32x1, .f32⟩
  | 44 => ⟨S32x1, .f32⟩
  | 45 => ⟨S946176x1, .f32⟩
  | 46 => ⟨S1x1, .f32⟩
  | 47 => ⟨S1, .f32⟩
  | 48 => ⟨S1x1, .f32⟩
  | 49 => ⟨S946176x1, .f32⟩
  | 50 => ⟨S946176x1, .f32⟩
  | 51 => ⟨S946176x1, .f32⟩
  | 52 => ⟨S946176x1, .f32⟩
  | 53 => ⟨S_, .f32⟩
  | 54 => ⟨S946176x1, .f32⟩
  | 55 => ⟨S946176x1, .f32⟩
  | 56 => ⟨S_, .f32⟩
  | 57 => ⟨S946176x1, .f32⟩
  | 58 => ⟨S946176x1, .f32⟩
  | 59 => ⟨S946176x32, .f32⟩
  | 60 => ⟨S946176x32, .f32⟩
  | 61 => ⟨S1x32x32, .f32⟩
  | 62 => ⟨S32x32, .f32⟩
  | 63 => ⟨S946176x32, .f32⟩
  | 64 => ⟨S1x32, .f32⟩
  | 65 => ⟨S32, .f32⟩
  | 66 => ⟨S1x32, .f32⟩
  | 67 => ⟨S946176x32, .f32⟩
  | 68 => ⟨S946176x32, .f32⟩
  | 69 => ⟨S946176x32, .f32⟩
  | 70 => ⟨S946176x32, .f32⟩
  | 71 => ⟨S_, .f32⟩
  | 72 => ⟨S946176x32, .f32⟩
  | 73 => ⟨S946176x32, .f32⟩
  | 74 => ⟨S_, .f32⟩
  | 75 => ⟨S946176x32, .f32⟩
  | 76 => ⟨S946176x32, .f32⟩
  | 77 => ⟨S946176x32, .f32⟩
  | 78 => ⟨S1x32x1, .f32⟩
  | 79 => ⟨S32x1, .f32⟩
  | 80 => ⟨S946176x1, .f32⟩
  | 81 => ⟨S1x1, .f32⟩
  | 82 => ⟨S1, .f32⟩
  | 83 => ⟨S1x1, .f32⟩
  | 84 => ⟨S946176x1, .f32⟩
  | 85 => ⟨S946176x1, .f32⟩
  | 86 => ⟨S946176x1, .f32⟩
  | 87 => ⟨S946176x3, .f32⟩
  | 88 => ⟨S946176x3, .f32⟩
  | 89 => ⟨S_, .f32⟩
  | 90 => ⟨S45056x3, .f32⟩
  | 91 => ⟨S946176x1, .i32⟩
  | 92 => ⟨S45056x3, .f32⟩
  | 93 => ⟨S45056x3, .f32⟩
  | 94 => ⟨S_, .f32⟩
  | 95 => ⟨S45056x32, .f32⟩
  | 96 => ⟨S946176x1, .i32⟩
  | 97 => ⟨S45056x32, .f32⟩
  | 98 => ⟨S45056x64, .f32⟩
  | 99 => ⟨S1x64x32, .f32⟩
  | 100 => ⟨S64x32, .f32⟩
  | 101 => ⟨S45056x32, .f32⟩
  | 102 => ⟨S1x32, .f32⟩
  | 103 => ⟨S32, .f32⟩
  | 104 => ⟨S1x32, .f32⟩
  | 105 => ⟨S45056x32, .f32⟩
  | 106 => ⟨S45056x32, .f32⟩
  | 107 => ⟨S45056x32, .f32⟩
  | 108 => ⟨S45056x32, .f32⟩
  | 109 => ⟨S_, .f32⟩
  | 110 => ⟨S45056x32, .f32⟩
  | 111 => ⟨S45056x32, .f32⟩
  | 112 => ⟨S_, .f32⟩
  | 113 => ⟨S45056x32, .f32⟩
  | 114 => ⟨S45056x32, .f32⟩
  | 115 => ⟨S45056x32, .f32⟩
  | 116 => ⟨S1x32x32, .f32⟩
  | 117 => ⟨S32x32, .f32⟩
  | 118 => ⟨S45056x32, .f32⟩
  | 119 => ⟨S1x32, .f32⟩
  | 120 => ⟨S32, .f32⟩
  | 121 => ⟨S1x32, .f32⟩
  | 122 => ⟨S45056x32, .f32⟩
  | 123 => ⟨S45056x32, .f32⟩
  | 124 => ⟨S45056x32, .f32⟩
  | 125 => ⟨S45056x3, .f32⟩
  | 126 => ⟨S2048x66, .f32⟩
  | 127 => ⟨S_, .f32⟩
  | _ => ⟨S2048x66, .f32⟩

abbrev hbmTy0_3 (i : Nat) : BufTy := match i % 128 with
  | 0 => ⟨S2048x66, .f32⟩
  | 1 => ⟨S2048x132, .f32⟩
  | _ => ⟨S2048x66, .f32⟩

abbrev hbmTy (i : Nat) : BufTy := match i / 128 with
  | 0 => hbmTy0_0 i
  | 1 => hbmTy0_1 i
  | 2 => hbmTy0_2 i
  | 3 => hbmTy0_3 i
  | _ => ⟨S2048x66, .f32⟩

abbrev bufTy : (tb : Table) → Fin (tcTables nBuf tb) → BufTy
  | .hbm, ⟨i, _⟩ => hbmTy i
  | _, _ => ⟨S2048x66, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_c_0 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_2 : Ref sig .tc := ⟨.hbm, 47, rfl⟩
abbrev main_v25 : Ref sig .tc := ⟨.hbm, 48, rfl⟩
abbrev main_v26 : Ref sig .tc := ⟨.hbm, 49, rfl⟩
abbrev main_c_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_4 : Ref sig .tc := ⟨.hbm, 56, rfl⟩
abbrev main_v32 : Ref sig .tc := ⟨.hbm, 57, rfl⟩
abbrev main_v33 : Ref sig .tc := ⟨.hbm, 58, rfl⟩
abbrev main_c_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_7 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_8 : Ref sig .tc := ⟨.hbm, 79, rfl⟩
abbrev main_v50 : Ref sig .tc := ⟨.hbm, 80, rfl⟩
abbrev main_v51 : Ref sig .tc := ⟨.hbm, 81, rfl⟩
abbrev main_c_9 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_10 : Ref sig .tc := ⟨.hbm, 88, rfl⟩
abbrev main_v57 : Ref sig .tc := ⟨.hbm, 89, rfl⟩
abbrev main_v58 : Ref sig .tc := ⟨.hbm, 90, rfl⟩
abbrev main_c_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_call0_v0 : Ref sig .tc := ⟨.hbm, 106, rfl⟩
abbrev main_call0_v1 : Ref sig .tc := ⟨.hbm, 107, rfl⟩
abbrev main_call0_cst : Ref sig .tc := ⟨.hbm, 108, rfl⟩
abbrev main_call0_v2 : Ref sig .tc := ⟨.hbm, 109, rfl⟩
abbrev main_call0_v3 : Ref sig .tc := ⟨.hbm, 110, rfl⟩
abbrev main_call0_cst_0 : Ref sig .tc := ⟨.hbm, 111, rfl⟩
abbrev main_call0_v4 : Ref sig .tc := ⟨.hbm, 112, rfl⟩
abbrev main_call0_v5 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_call1_v0 : Ref sig .tc := ⟨.hbm, 123, rfl⟩
abbrev main_call1_v1 : Ref sig .tc := ⟨.hbm, 124, rfl⟩
abbrev main_call1_cst : Ref sig .tc := ⟨.hbm, 125, rfl⟩
abbrev main_call1_v2 : Ref sig .tc := ⟨.hbm, 126, rfl⟩
abbrev main_call1_v3 : Ref sig .tc := ⟨.hbm, 127, rfl⟩
abbrev main_call1_cst_0 : Ref sig .tc := ⟨.hbm, 128, rfl⟩
abbrev main_call1_v4 : Ref sig .tc := ⟨.hbm, 129, rfl⟩
abbrev main_call1_v5 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_cst_12 : Ref sig .tc := ⟨.hbm, 142, rfl⟩
abbrev main_v93 : Ref sig .tc := ⟨.hbm, 143, rfl⟩
abbrev main_v94 : Ref sig .tc := ⟨.hbm, 144, rfl⟩
abbrev main_cst_13 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_call2_v0 : Ref sig .tc := ⟨.hbm, 158, rfl⟩
abbrev main_call2_v1 : Ref sig .tc := ⟨.hbm, 159, rfl⟩
abbrev main_call2_cst : Ref sig .tc := ⟨.hbm, 160, rfl⟩
abbrev main_call2_v2 : Ref sig .tc := ⟨.hbm, 161, rfl⟩
abbrev main_call2_v3 : Ref sig .tc := ⟨.hbm, 162, rfl⟩
abbrev main_call2_cst_0 : Ref sig .tc := ⟨.hbm, 163, rfl⟩
abbrev main_call2_v4 : Ref sig .tc := ⟨.hbm, 164, rfl⟩
abbrev main_call2_v5 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_cst_14 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_cst_15 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_call3_v0 : Ref sig .tc := ⟨.hbm, 196, rfl⟩
abbrev main_call3_v1 : Ref sig .tc := ⟨.hbm, 197, rfl⟩
abbrev main_call3_cst : Ref sig .tc := ⟨.hbm, 198, rfl⟩
abbrev main_call3_v2 : Ref sig .tc := ⟨.hbm, 199, rfl⟩
abbrev main_call3_v3 : Ref sig .tc := ⟨.hbm, 200, rfl⟩
abbrev main_call3_cst_0 : Ref sig .tc := ⟨.hbm, 201, rfl⟩
abbrev main_call3_v4 : Ref sig .tc := ⟨.hbm, 202, rfl⟩
abbrev main_call3_v5 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_c_16 : Ref sig .tc := ⟨.hbm, 214, rfl⟩
abbrev main_v145 : Ref sig .tc := ⟨.hbm, 215, rfl⟩
abbrev main_v146 : Ref sig .tc := ⟨.hbm, 216, rfl⟩
abbrev main_c_17 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_c_18 : Ref sig .tc := ⟨.hbm, 223, rfl⟩
abbrev main_v152 : Ref sig .tc := ⟨.hbm, 224, rfl⟩
abbrev main_v153 : Ref sig .tc := ⟨.hbm, 225, rfl⟩
abbrev main_c_19 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_cst_20 : Ref sig .tc := ⟨.hbm, 234, rfl⟩
abbrev main_v161 : Ref sig .tc := ⟨.hbm, 235, rfl⟩
abbrev main_v162 : Ref sig .tc := ⟨.hbm, 236, rfl⟩
abbrev main_cst_21 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_cst_22 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_c_23 : Ref sig .tc := ⟨.hbm, 246, rfl⟩
abbrev main_v170 : Ref sig .tc := ⟨.hbm, 247, rfl⟩
abbrev main_v171 : Ref sig .tc := ⟨.hbm, 248, rfl⟩
abbrev main_c_24 : Ref sig .tc := ⟨.hbm, 249, rfl⟩
abbrev main_v172 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_c_25 : Ref sig .tc := ⟨.hbm, 255, rfl⟩
abbrev main_v177 : Ref sig .tc := ⟨.hbm, 256, rfl⟩
abbrev main_v178 : Ref sig .tc := ⟨.hbm, 257, rfl⟩
abbrev main_c_26 : Ref sig .tc := ⟨.hbm, 258, rfl⟩
abbrev main_v179 : Ref sig .tc := ⟨.hbm, 259, rfl⟩
abbrev main_v180 : Ref sig .tc := ⟨.hbm, 260, rfl⟩
abbrev main_v181 : Ref sig .tc := ⟨.hbm, 261, rfl⟩
abbrev main_v182 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_call4_v0 : Ref sig .tc := ⟨.hbm, 273, rfl⟩
abbrev main_call4_v1 : Ref sig .tc := ⟨.hbm, 274, rfl⟩
abbrev main_call4_cst : Ref sig .tc := ⟨.hbm, 275, rfl⟩
abbrev main_call4_v2 : Ref sig .tc := ⟨.hbm, 276, rfl⟩
abbrev main_call4_v3 : Ref sig .tc := ⟨.hbm, 277, rfl⟩
abbrev main_call4_cst_0 : Ref sig .tc := ⟨.hbm, 278, rfl⟩
abbrev main_call4_v4 : Ref sig .tc := ⟨.hbm, 279, rfl⟩
abbrev main_call4_v5 : Ref sig .tc := ⟨.hbm, 280, rfl⟩
abbrev main_v193 : Ref sig .tc := ⟨.hbm, 281, rfl⟩
abbrev main_v194 : Ref sig .tc := ⟨.hbm, 282, rfl⟩
abbrev main_v195 : Ref sig .tc := ⟨.hbm, 283, rfl⟩
abbrev main_v196 : Ref sig .tc := ⟨.hbm, 284, rfl⟩
abbrev main_v197 : Ref sig .tc := ⟨.hbm, 285, rfl⟩
abbrev main_v198 : Ref sig .tc := ⟨.hbm, 286, rfl⟩
abbrev main_v199 : Ref sig .tc := ⟨.hbm, 287, rfl⟩
abbrev main_v200 : Ref sig .tc := ⟨.hbm, 288, rfl⟩
abbrev main_v201 : Ref sig .tc := ⟨.hbm, 289, rfl⟩
abbrev main_call5_v0 : Ref sig .tc := ⟨.hbm, 290, rfl⟩
abbrev main_call5_v1 : Ref sig .tc := ⟨.hbm, 291, rfl⟩
abbrev main_call5_cst : Ref sig .tc := ⟨.hbm, 292, rfl⟩
abbrev main_call5_v2 : Ref sig .tc := ⟨.hbm, 293, rfl⟩
abbrev main_call5_v3 : Ref sig .tc := ⟨.hbm, 294, rfl⟩
abbrev main_call5_cst_0 : Ref sig .tc := ⟨.hbm, 295, rfl⟩
abbrev main_call5_v4 : Ref sig .tc := ⟨.hbm, 296, rfl⟩
abbrev main_call5_v5 : Ref sig .tc := ⟨.hbm, 297, rfl⟩
abbrev main_v202 : Ref sig .tc := ⟨.hbm, 298, rfl⟩
abbrev main_v203 : Ref sig .tc := ⟨.hbm, 299, rfl⟩
abbrev main_v204 : Ref sig .tc := ⟨.hbm, 300, rfl⟩
abbrev main_v205 : Ref sig .tc := ⟨.hbm, 301, rfl⟩
abbrev main_v206 : Ref sig .tc := ⟨.hbm, 302, rfl⟩
abbrev main_v207 : Ref sig .tc := ⟨.hbm, 303, rfl⟩
abbrev main_v208 : Ref sig .tc := ⟨.hbm, 304, rfl⟩
abbrev main_v209 : Ref sig .tc := ⟨.hbm, 305, rfl⟩
abbrev main_v210 : Ref sig .tc := ⟨.hbm, 306, rfl⟩
abbrev main_v211 : Ref sig .tc := ⟨.hbm, 307, rfl⟩
abbrev main_v212 : Ref sig .tc := ⟨.hbm, 308, rfl⟩
abbrev main_cst_27 : Ref sig .tc := ⟨.hbm, 309, rfl⟩
abbrev main_v213 : Ref sig .tc := ⟨.hbm, 310, rfl⟩
abbrev main_v214 : Ref sig .tc := ⟨.hbm, 311, rfl⟩
abbrev main_cst_28 : Ref sig .tc := ⟨.hbm, 312, rfl⟩
abbrev main_v215 : Ref sig .tc := ⟨.hbm, 313, rfl⟩
abbrev main_v216 : Ref sig .tc := ⟨.hbm, 314, rfl⟩
abbrev main_v217 : Ref sig .tc := ⟨.hbm, 315, rfl⟩
abbrev main_v218 : Ref sig .tc := ⟨.hbm, 316, rfl⟩
abbrev main_v219 : Ref sig .tc := ⟨.hbm, 317, rfl⟩
abbrev main_v220 : Ref sig .tc := ⟨.hbm, 318, rfl⟩
abbrev main_v221 : Ref sig .tc := ⟨.hbm, 319, rfl⟩
abbrev main_v222 : Ref sig .tc := ⟨.hbm, 320, rfl⟩
abbrev main_v223 : Ref sig .tc := ⟨.hbm, 321, rfl⟩
abbrev main_v224 : Ref sig .tc := ⟨.hbm, 322, rfl⟩
abbrev main_v225 : Ref sig .tc := ⟨.hbm, 323, rfl⟩
abbrev main_v226 : Ref sig .tc := ⟨.hbm, 324, rfl⟩
abbrev main_call6_v0 : Ref sig .tc := ⟨.hbm, 325, rfl⟩
abbrev main_call6_v1 : Ref sig .tc := ⟨.hbm, 326, rfl⟩
abbrev main_call6_cst : Ref sig .tc := ⟨.hbm, 327, rfl⟩
abbrev main_call6_v2 : Ref sig .tc := ⟨.hbm, 328, rfl⟩
abbrev main_call6_v3 : Ref sig .tc := ⟨.hbm, 329, rfl⟩
abbrev main_call6_cst_0 : Ref sig .tc := ⟨.hbm, 330, rfl⟩
abbrev main_call6_v4 : Ref sig .tc := ⟨.hbm, 331, rfl⟩
abbrev main_call6_v5 : Ref sig .tc := ⟨.hbm, 332, rfl⟩
abbrev main_v227 : Ref sig .tc := ⟨.hbm, 333, rfl⟩
abbrev main_v228 : Ref sig .tc := ⟨.hbm, 334, rfl⟩
abbrev main_v229 : Ref sig .tc := ⟨.hbm, 335, rfl⟩
abbrev main_v230 : Ref sig .tc := ⟨.hbm, 336, rfl⟩
abbrev main_v231 : Ref sig .tc := ⟨.hbm, 337, rfl⟩
abbrev main_v232 : Ref sig .tc := ⟨.hbm, 338, rfl⟩
abbrev main_v233 : Ref sig .tc := ⟨.hbm, 339, rfl⟩
abbrev main_v234 : Ref sig .tc := ⟨.hbm, 340, rfl⟩
abbrev main_v235 : Ref sig .tc := ⟨.hbm, 341, rfl⟩
abbrev main_v236 : Ref sig .tc := ⟨.hbm, 342, rfl⟩
abbrev main_v237 : Ref sig .tc := ⟨.hbm, 343, rfl⟩
abbrev main_v238 : Ref sig .tc := ⟨.hbm, 344, rfl⟩
abbrev main_cst_29 : Ref sig .tc := ⟨.hbm, 345, rfl⟩
abbrev main_v239 : Ref sig .tc := ⟨.hbm, 346, rfl⟩
abbrev main_v240 : Ref sig .tc := ⟨.hbm, 347, rfl⟩
abbrev main_v241 : Ref sig .tc := ⟨.hbm, 348, rfl⟩
abbrev main_v242 : Ref sig .tc := ⟨.hbm, 349, rfl⟩
abbrev main_cst_30 : Ref sig .tc := ⟨.hbm, 350, rfl⟩
abbrev main_v243 : Ref sig .tc := ⟨.hbm, 351, rfl⟩
abbrev main_v244 : Ref sig .tc := ⟨.hbm, 352, rfl⟩
abbrev main_v245 : Ref sig .tc := ⟨.hbm, 353, rfl⟩
abbrev main_v246 : Ref sig .tc := ⟨.hbm, 354, rfl⟩
abbrev main_v247 : Ref sig .tc := ⟨.hbm, 355, rfl⟩
abbrev main_v248 : Ref sig .tc := ⟨.hbm, 356, rfl⟩
abbrev main_v249 : Ref sig .tc := ⟨.hbm, 357, rfl⟩
abbrev main_v250 : Ref sig .tc := ⟨.hbm, 358, rfl⟩
abbrev main_v251 : Ref sig .tc := ⟨.hbm, 359, rfl⟩
abbrev main_v252 : Ref sig .tc := ⟨.hbm, 360, rfl⟩
abbrev main_v253 : Ref sig .tc := ⟨.hbm, 361, rfl⟩
abbrev main_v254 : Ref sig .tc := ⟨.hbm, 362, rfl⟩
abbrev main_call7_v0 : Ref sig .tc := ⟨.hbm, 363, rfl⟩
abbrev main_call7_v1 : Ref sig .tc := ⟨.hbm, 364, rfl⟩
abbrev main_call7_cst : Ref sig .tc := ⟨.hbm, 365, rfl⟩
abbrev main_call7_v2 : Ref sig .tc := ⟨.hbm, 366, rfl⟩
abbrev main_call7_v3 : Ref sig .tc := ⟨.hbm, 367, rfl⟩
abbrev main_call7_cst_0 : Ref sig .tc := ⟨.hbm, 368, rfl⟩
abbrev main_call7_v4 : Ref sig .tc := ⟨.hbm, 369, rfl⟩
abbrev main_call7_v5 : Ref sig .tc := ⟨.hbm, 370, rfl⟩
abbrev main_v255 : Ref sig .tc := ⟨.hbm, 371, rfl⟩
abbrev main_v256 : Ref sig .tc := ⟨.hbm, 372, rfl⟩
abbrev main_v257 : Ref sig .tc := ⟨.hbm, 373, rfl⟩
abbrev main_v258 : Ref sig .tc := ⟨.hbm, 374, rfl⟩
abbrev main_v259 : Ref sig .tc := ⟨.hbm, 375, rfl⟩
abbrev main_v260 : Ref sig .tc := ⟨.hbm, 376, rfl⟩
abbrev main_v261 : Ref sig .tc := ⟨.hbm, 377, rfl⟩
abbrev main_v262 : Ref sig .tc := ⟨.hbm, 378, rfl⟩
abbrev main_v263 : Ref sig .tc := ⟨.hbm, 379, rfl⟩
abbrev main_v264 : Ref sig .tc := ⟨.hbm, 380, rfl⟩
abbrev main_v265 : Ref sig .tc := ⟨.hbm, 381, rfl⟩
abbrev main_v266 : Ref sig .tc := ⟨.hbm, 382, rfl⟩
abbrev main_cst_31 : Ref sig .tc := ⟨.hbm, 383, rfl⟩
abbrev main_v267 : Ref sig .tc := ⟨.hbm, 384, rfl⟩
abbrev main_v268 : Ref sig .tc := ⟨.hbm, 385, rfl⟩

abbrev nD : Nat := 1
abbrev τ : Topo := Topo.v7x

variable {F : FTy → Type} [FloatOps F]
-- ==== Proof.Spec.lean ====
module

public import Idealize.ShloMosaic.Lib.Pointwise
public import Idealize.ShloMosaic.Lib.IdealHost

@[expose] public section

noncomputable section

/-! What one graph of the batch computes, over the extended reals: the mathematics that the kernel and the reference
share. A graph has 22 nodes with a position (three coordinates) and 32 features each; every ordered pair of distinct
nodes is an edge. -/

namespace Cert.Egnn

open Idealize.ShloMosaic

/-- `silu x = x · logistic x`. -/
def silu (x : EReal) : EReal := x * Ideal.logistic x

/-- The small constant (the f32 nearest to 1e-8) under the square root. -/
def eps : EReal := Ideal.ofBits .f32 0x322BCC77#32

/-- The weight matrices of one layer: the two edge matrices' rows split by what they multiply. -/
structure Weights where
  /-- the edge network's rows for the receiving node's features -/
  A : Fin 32 → Fin 32 → EReal
  /-- the edge network's rows for the sending node's features -/
  B : Fin 32 → Fin 32 → EReal
  /-- the edge network's row for the squared distance -/
  C : Fin 32 → EReal
  /-- the edge network's second matrix -/
  E2 : Fin 32 → Fin 32 → EReal
  /-- the attention vector -/
  att : Fin 32 → EReal
  /-- the coordinate network's first matrix -/
  C1 : Fin 32 → Fin 32 → EReal
  /-- the coordinate network's last vector -/
  c2 : Fin 32 → EReal
  /-- the node network's rows for the node's own features -/
  N1a : Fin 32 → Fin 32 → EReal
  /-- the node network's rows for the sum of messages -/
  N1b : Fin 32 → Fin 32 → EReal
  /-- the node network's second matrix -/
  N2 : Fin 32 → Fin 32 → EReal

variable (W : Weights) (x : Fin 22 → Fin 3 → EReal) (h : Fin 22 → Fin 32 → EReal)

/-- The difference of two nodes' positions. -/
def dif (i j : Fin 22) (k : Fin 3) : EReal := x i k - x j k

/-- Their squared distance. -/
def rad (i j : Fin 22) : EReal := ∑ k : Fin 3, dif x i j k * dif x i j k

/-- The difference divided by the distance plus one. -/
def dirn (i j : Fin 22) (k : Fin 3) : EReal := Ideal.div (dif x i j k) (Ideal.sqrt (rad x i j + eps) + 1)

/-- A vector times a matrix. -/
def vecMat {n m : ℕ} (v : Fin n → EReal) (M : Fin n → Fin m → EReal) (f : Fin m) : EReal := ∑ e, v e * M e f

/-- The edge network before its first activation. -/
def pre (i j : Fin 22) (f : Fin 32) : EReal := vecMat (h i) W.A f + vecMat (h j) W.B f + rad x i j * W.C f

/-- The edge network's output, of what stands before its first activation. -/
def edgeOut (p : Fin 32 → EReal) (f : Fin 32) : EReal := silu (vecMat (fun e => silu (p e)) W.E2 f)

/-- The message: the edge network's output, times its attention gate. -/
def gated (p : Fin 32 → EReal) (f : Fin 32) : EReal :=
  edgeOut W p f * Ideal.logistic (∑ e, edgeOut W p e * W.att e)

/-- The message along the edge of two nodes. -/
def msg (i j : Fin 22) (f : Fin 32) : EReal := gated W (pre W x h i j) f

/-- The weight the coordinate network gives a message. -/
def coordOf (m : Fin 32 → EReal) : EReal := Ideal.tanh (∑ e, silu (vecMat m W.C1 e) * W.c2 e)

/-- The positions after the layer. -/
def nextX (i : Fin 22) (k : Fin 3) : EReal :=
  x i k + ∑ j ∈ Finset.univ.filter (fun j : Fin 22 => j ≠ i), dirn x i j k * coordOf W (msg W x h i j)

/-- The sum of the messages that reach a node. -/
def agg (i : Fin 22) (f : Fin 32) : EReal := ∑ j ∈ Finset.univ.filter (fun j : Fin 22 => j ≠ i), msg W x h i j f

/-- The node network before its activation. -/
def nodePre (i : Fin 22) (f : Fin 32) : EReal := vecMat (h i) W.N1a f + vecMat (agg W x h i) W.N1b f

/-- The features after the layer. -/
def nextH (i : Fin 22) (f : Fin 32) : EReal := h i f + vecMat (fun e => silu (nodePre W x h i e)) W.N2 f

/-- The velocity: the positions after two layers, less the positions given. -/
def velocity (W0 W1 : Weights) (x : Fin 22 → Fin 3 → EReal) (h : Fin 22 → Fin 32 → EReal) (i : Fin 22) (k : Fin 3) : EReal :=
  nextX W1 (nextX W0 x h) (nextH W0 x h) i k - x i k

/-! ## Values at zero, and finiteness -/

/-- `silu 0 = 0`. -/
theorem silu_zero : silu 0 = 0 := by unfold silu; rw [zero_mul]

/-- `tanh 0 = 0`. -/
theorem tanh_zero : Ideal.tanh 0 = 0 := by
  show Ideal.tanh ((0 : ℝ) : EReal) = 0
  unfold Ideal.tanh
  show ((Real.tanh 0 : ℝ) : EReal) = 0
  rw [Real.tanh_zero]; rfl

/-- A hyperbolic tangent is a real number. -/
theorem tanh_real (a : EReal) : ∃ r : ℝ, Ideal.tanh a = r := by
  induction a with
  | bot => exact ⟨-1, by show (-1 : EReal) = ((-1 : ℝ) : EReal); rw [EReal.coe_neg, EReal.coe_one]⟩
  | top => exact ⟨1, rfl⟩
  | coe r => exact ⟨Real.tanh r, rfl⟩

/-- The small constant is a positive real number. -/
theorem eps_real : ∃ r : ℝ, 0 ≤ r ∧ eps = r := by
  unfold eps
  refine ⟨(11258999 : ℝ) * (2 : ℝ) ^ (-50 : ℤ), by positivity, ?_⟩
  simp [Ideal.ofBits, Ideal.ieee, -EReal.coe_mul]

/-- A finite sum of real numbers is a real number. -/
theorem sum_real {ι : Type*} (s : Finset ι) (f : ι → EReal) (hf : ∀ i ∈ s, ∃ r : ℝ, f i = r) : ∃ r : ℝ, ∑ i ∈ s, f i = r := by
  classical
  induction s using Finset.induction_on with
  | empty => exact ⟨0, by simp⟩
  | insert a s ha ih =>
    obtain ⟨r, hr⟩ := hf a (Finset.mem_insert_self _ _)
    obtain ⟨q, hq⟩ := ih fun i hi => hf i (Finset.mem_insert_of_mem hi)
    exact ⟨r + q, by rw [Finset.sum_insert ha, hr, hq, EReal.coe_add]⟩

/-- A difference of real positions is real. -/
theorem dif_real (hx : ∀ i k, ∃ r : ℝ, x i k = r) (i j : Fin 22) (k : Fin 3) : ∃ r : ℝ, dif x i j k = r := by
  obtain ⟨a, ha⟩ := hx i k
  obtain ⟨b, hb⟩ := hx j k
  exact ⟨a - b, by unfold dif; rw [ha, hb, EReal.coe_sub]⟩

/-- A squared distance is a nonnegative real number. -/
theorem rad_real (hx : ∀ i k, ∃ r : ℝ, x i k = r) (i j : Fin 22) : ∃ r : ℝ, 0 ≤ r ∧ rad x i j = r := by
  choose d hd using dif_real x hx i j
  refine ⟨∑ k, d k * d k, Finset.sum_nonneg fun k _ => mul_self_nonneg _, ?_⟩
  unfold rad
  simp only [hd, Fin.sum_univ_three, EReal.coe_add, EReal.coe_mul]

/-- A direction between real positions is real. -/
theorem dirn_real (hx : ∀ i k, ∃ r : ℝ, x i k = r) (i j : Fin 22) (k : Fin 3) : ∃ r : ℝ, dirn x i j k = r := by
  obtain ⟨d, hd⟩ := dif_real x hx i j k
  obtain ⟨q, hq0, hq⟩ := rad_real x hx i j
  obtain ⟨e, he0, he⟩ := eps_real
  unfold dirn
  rw [hd, hq, he, ← EReal.coe_add]
  have h1 : Ideal.sqrt ((q + e : ℝ) : EReal) = (Real.sqrt (q + e) : EReal) := by
    show (if q + e < 0 then ⊥ else (Real.sqrt (q + e) : EReal)) = _
    rw [if_neg (not_lt.mpr (add_nonneg hq0 he0))]
  rw [h1]
  have h2 : ((Real.sqrt (q + e) : EReal) + 1) = ((Real.sqrt (q + e) + 1 : ℝ) : EReal) := by
    rw [EReal.coe_add]; rfl
  have h3 : Real.sqrt (q + e) + 1 ≠ 0 := (add_pos_of_nonneg_of_pos (Real.sqrt_nonneg _) one_pos).ne'
  refine ⟨d * (Real.sqrt (q + e) + 1)⁻¹, ?_⟩
  rw [h2]; unfold Ideal.div
  rw [if_neg (by exact_mod_cast h3), ← EReal.coe_inv, EReal.coe_mul]

/-- Real positions stay real numbers through a layer, whatever the weights and the features are. -/
theorem nextX_real (hx : ∀ i k, ∃ r : ℝ, x i k = r) (i : Fin 22) (k : Fin 3) : ∃ r : ℝ, nextX W x h i k = r := by
  obtain ⟨a, ha⟩ := hx i k
  obtain ⟨b, hb⟩ := sum_real (Finset.univ.filter (fun j : Fin 22 => j ≠ i))
    (fun j => dirn x i j k * coordOf W (msg W x h i j)) fun j _ => by
      obtain ⟨d, hd⟩ := dirn_real x hx i j k
      obtain ⟨t, ht⟩ := tanh_real (∑ e, silu (vecMat (msg W x h i j) W.C1 e) * W.c2 e)
      exact ⟨d * t, by rw [hd, EReal.coe_mul, ← ht]; rfl⟩
  exact ⟨a + b, by unfold nextX; rw [ha, hb, EReal.coe_add]⟩

end Cert.Egnn

end
-- ==== Proof.Edges.lean ====
module

public import proofs.«01_k».proof.Proof.Gen.ReferenceIdeal.Run
public import proofs.«01_k».proof.Proof.Spec
public import Idealize.ShloMosaic.Lib.Pointwise
public import Idealize.ShloMosaic.Lib.IdealHost

@[expose] public section

noncomputable section

/-! The reference's edge list: edge `(b, i, j)` goes from node `i` of graph `b` to the `j`-th of the other nodes. Reading
rows along it, and adding rows up along it. -/

namespace Cert.Egnn

open Idealize.ShloMosaic

/-! ## Reading and adding rows of an array, the rows named by a list -/

/-- Reading whole rows: row `e` of the result is the row of the operand that word `e` names. -/
def rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A gather of whole rows, read at an entry: the row its index names. -/
theorem gather_rows {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowsDims N C E wf) x idx (ix2 e k) = x (ix2 ⟨min (idx (ix2 e 0)).toInt.toNat (N - 1), by omega⟩ k) := by
  unfold Host.gather
  congr 1
  funext a
  refine Fin.ext ?_
  show (rowsDims N C E wf).start (ix2 e k) idx a + (rowsDims N C E wf).batchCoord (ix2 e k) a
      + (rowsDims N C E wf).offCoord (ix2 e k) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by cases h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C E wf).startIndexMap from List.mem_singleton.mpr rfl)]
    have hsi : (rowsDims N C E wf).siIdx (ix2 e k) ⟨List.idxOf (0 : Fin 2) (rowsDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · rw [GatherDims.batchCoord_eq_zero _ _ _ (fun h => by cases h)]
    unfold GatherDims.start
    rw [dif_neg (show (1 : Fin 2) ∉ (rowsDims N C E wf).startIndexMap by
      intro h; exact absurd (List.mem_singleton.mp h) (show (1 : Fin 2) ≠ 0 by decide))]
    simp only [Nat.zero_add]
    rfl

/-- Adding whole rows: row `e` of the updates is added to the row of the operand that word `e` names. -/
def addDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N C E w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- The row that a scattered entry falls in is the one its index names. -/
theorem addDims_row : (addDims N C E wf).start (ix2 e k) idx 0 + (addDims N C E wf).window (ix2 e k) 0
    = (idx (ix2 e 0)).toInt := by
  unfold ScatterDims.start ScatterDims.window
  rw [dif_pos (show (0 : Fin 2) ∈ (addDims N C E wf).scatterDimsToOperandDims from List.mem_singleton.mpr rfl),
    dif_neg (show (0 : Fin 2) ∉ (addDims N C E wf).sKept by
      intro h; have h' := (List.mem_filter.mp h).2; simp [addDims] at h')]
  have hsi : (addDims N C E wf).siIdx (ix2 e k) ⟨List.idxOf (0 : Fin 2) (addDims N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]
  simp

/-- The column that a scattered entry falls in is its own. -/
theorem addDims_col : (addDims N C E wf).start (ix2 e k) idx 1 + (addDims N C E wf).window (ix2 e k) 1 = (k.val : Int) := by
  unfold ScatterDims.start
  rw [dif_neg (show (1 : Fin 2) ∉ (addDims N C E wf).scatterDimsToOperandDims by
      intro h; exact absurd (List.mem_singleton.mp h) (show (1 : Fin 2) ≠ 0 by decide)), zero_add]
  rfl

/-- Row `e`'s entry `k` lands at `(n, c)` exactly when word `e` names row `n` and `k` is `c`. -/
theorem addDims_lands (n : Fin N) (c : Fin C) :
    (addDims N C E wf).resultIdx? (ix2 e k) idx = some (ix2 n c) ↔ (idx (ix2 e 0)).toInt = (n.val : Int) ∧ k = c := by
  have h0 := addDims_row wf idx e k
  have h1 := addDims_col wf idx e k
  unfold ScatterDims.resultIdx?
  constructor
  · intro h
    split at h
    · rename_i hb
      have h' := Option.some.inj h
      have e0 := congrArg Fin.val (congrFun h' 0)
      have e1 := congrArg Fin.val (congrFun h' 1)
      have b0 := (hb 0).1
      simp only [h0, h1] at e0 e1 b0
      refine ⟨?_, Fin.ext ?_⟩
      · have : (idx (ix2 e 0)).toInt.toNat = n.val := e0
        omega
      · have : (k.val : Int).toNat = c.val := e1
        omega
    · cases h
  · rintro ⟨hn, rfl⟩
    have hb : ∀ a, 0 ≤ (addDims N C E wf).start (ix2 e k) idx a + (addDims N C E wf).window (ix2 e k) a
        ∧ (addDims N C E wf).start (ix2 e k) idx a + (addDims N C E wf).window (ix2 e k) a < (⟨2, ![N, C]⟩ : Shape).size a := by
      intro a
      match a with
      | ⟨0, _⟩ => rw [show (⟨0, by decide⟩ : Fin 2) = 0 from rfl]; rw [h0, hn]; exact ⟨by omega, by show (n.val : Int) < N; have := n.isLt; omega⟩
      | ⟨1, _⟩ => rw [show (⟨1, by decide⟩ : Fin 2) = 1 from rfl]; rw [h1]; exact ⟨by omega, by show (k.val : Int) < C; have := k.isLt; omega⟩
    rw [dif_pos hb]
    refine congrArg some (funext fun a => Fin.ext ?_)
    match a with
    | ⟨0, _⟩ => show ((addDims N C E wf).start (ix2 e k) idx 0 + (addDims N C E wf).window (ix2 e k) 0).toNat = n.val; rw [h0, hn]; rfl
    | ⟨1, _⟩ => show ((addDims N C E wf).start (ix2 e k) idx 1 + (addDims N C E wf).window (ix2 e k) 1).toNat = k.val; rw [h1]; rfl

/-- An entry after the additions: what stood there, and the entries of the rows whose word names its row. -/
theorem scatter_rows (x : FVec Ideal ⟨2, ![N, C]⟩ .f32) (upd : FVec Ideal ⟨2, ![E, C]⟩ .f32) (n : Fin N) (c : Fin C) :
    Host.scatterAdd (F := Ideal) (addDims N C E wf) x idx upd (ix2 n c)
      = (x (ix2 n c) + ∑ e ∈ Finset.univ.filter (fun e : Fin E => (idx (ix2 e 0)).toInt = (n.val : Int)), upd (ix2 e c) : EReal) := by
  show (x (ix2 n c) + ∑ j ∈ Finset.univ.filter (fun j => (addDims N C E wf).resultIdx? j idx = some (ix2 n c)), upd j : EReal) = _
  congr 1
  symm
  refine Finset.sum_bij (fun e _ => ix2 e c) ?_ ?_ ?_ ?_
  · intro e he
    exact Finset.mem_filter.mpr ⟨Finset.mem_univ _, (addDims_lands wf idx e c n c).mpr ⟨(Finset.mem_filter.mp he).2, rfl⟩⟩
  · intro a _ b _ h
    exact congrFun h 0
  · intro j hj
    have hj' := (Finset.mem_filter.mp hj).2
    have hjx : j = ix2 (j 0) (j 1) := by funext a; match a with | ⟨0, _⟩ => rfl | ⟨1, _⟩ => rfl
    rw [hjx] at hj'
    have h := (addDims_lands wf idx (j 0) (j 1) n c).mp hj'
    refine ⟨j 0, Finset.mem_filter.mpr ⟨Finset.mem_univ _, h.1⟩, ?_⟩
    rw [hjx, ← h.2]
    rfl
  · intro e _; rfl

end

/-! ## The edges -/

/-- Graph `b`'s node `i` among all nodes. -/
def node (b : Fin 2048) (i : Fin 22) : Fin 45056 := ⟨b.val * 22 + i.val, by omega⟩

/-- Edge `(b, i, j)` among all edges. -/
def edge (b : Fin 2048) (i : Fin 22) (j : Fin 21) : Fin 946176 := ⟨b.val * 462 + (i.val * 21 + j.val), by omega⟩

/-- The node an edge starts from. -/
def srcOf (e : Fin 946176) : Fin 45056 := ⟨e.val / 462 * 22 + e.val % 462 / 21, by omega⟩

/-- The node it goes to. -/
def dstOf (e : Fin 946176) : Fin 45056 :=
  ⟨e.val / 462 * 22 + (if e.val % 462 % 21 < e.val % 462 / 21 then e.val % 462 % 21 else e.val % 462 % 21 + 1), by split <;> omega⟩

/-- Edge `(b, i, j)` leaves node `i` of graph `b`. -/
theorem srcOf_edge (b : Fin 2048) (i : Fin 22) (j : Fin 21) : srcOf (edge b i j) = node b i := by
  refine Fin.ext ?_; simp only [srcOf, edge, node]; omega

/-- Edge `(b, i, j)` points at the `j`-th other node of graph `b`. -/
theorem dstOf_edge (b : Fin 2048) (i : Fin 22) (j : Fin 21) : dstOf (edge b i j) = node b (i.succAbove j) := by
  refine Fin.ext ?_
  have h1 : (b.val * 462 + (i.val * 21 + j.val)) / 462 = b.val := by omega
  have h2 : (b.val * 462 + (i.val * 21 + j.val)) % 462 / 21 = i.val := by omega
  have h3 : (b.val * 462 + (i.val * 21 + j.val)) % 462 % 21 = j.val := by omega
  simp only [dstOf, edge, node, h1, h2, h3, Fin.succAbove, Fin.lt_def, Fin.val_castSucc]
  split <;> simp

/-- The edges from a node are its 21 edges. -/
theorem sum_edges (F : Fin 946176 → EReal) (b : Fin 2048) (i : Fin 22) :
    ∑ e ∈ Finset.univ.filter (fun e => srcOf e = node b i), F e = ∑ j : Fin 21, F (edge b i j) := by
  symm
  refine Finset.sum_bij (fun j _ => edge b i j) ?_ ?_ ?_ ?_
  · intro j _
    exact Finset.mem_filter.mpr ⟨Finset.mem_univ _, srcOf_edge b i j⟩
  · intro a _ c _ h
    have := congrArg Fin.val h
    simp only [edge] at this
    exact Fin.ext (by omega)
  · intro e he
    have h := congrArg Fin.val (Finset.mem_filter.mp he).2
    simp only [srcOf, node] at h
    refine ⟨⟨e.val % 462 % 21, by omega⟩, Finset.mem_univ _, Fin.ext ?_⟩
    simp only [edge]
    omega
  · intro j _; rfl

/-- A sum over the other nodes, by their order. -/
theorem sum_others (F : Fin 22 → EReal) (i : Fin 22) :
    ∑ j ∈ Finset.univ.filter (fun j : Fin 22 => j ≠ i), F j = ∑ j : Fin 21, F (i.succAbove j) := by
  rw [Finset.sum_filter, Fin.sum_univ_succAbove _ i, if_neg (by simp), zero_add]
  exact Finset.sum_congr rfl fun j _ => if_pos (Fin.succAbove_ne i j)

/-! ## The reference's words -/

open Cert.ReferenceIdeal Cert.ReferenceIdeal.Gen

/-- The two constant lists hold each pair of distinct nodes of a graph. -/
theorem lit0_eq : ∀ p : Fin 462, lit0 p = BitVec.ofNat 32 (p.val / 21) := by decide +kernel

/-- The second table of words names the partners in order, the node itself skipped. -/
theorem lit1_eq : ∀ p : Fin 462, lit1 p = BitVec.ofNat 32 (if p.val % 21 < p.val / 21 then p.val % 21 else p.val % 21 + 1) := by
  decide +kernel

/-- A list of words that name nodes. -/
def Names (I : IVec S946176 32) (n : Fin 946176 → Fin 45056) : Prop := ∀ e, I (ix1 e) = BitVec.ofNat 32 (n e).val

/-- The position of an index into a rank-one array is the index. -/
theorem pos_one (k : Fin 462) : S462.rowMajor (ix1 k) = k := by
  refine Fin.ext ?_
  exact (Shape.rowMajor_val_one ..)

/-- The reference's first index array names the edges' sources. -/
theorem v19_names (V0 : Valuation τ sig (Elt Ideal)) : Names (Value.res_main_v19 V0) srcOf := by
  intro e
  unfold Value.res_main_v19 Value.res_main_v14
  pointwise
  rw [pos_one, lit0_eq]
  refine BitVec.eq_of_toNat_eq ?_
  simp only [IntOp.addi, IntOp.muli, BitVec.toNat_add, BitVec.toNat_mul, BitVec.toNat_ofNat, srcOf]
  have := e.isLt
  omega

/-- The second names their targets. -/
theorem v24_names (V0 : Valuation τ sig (Elt Ideal)) : Names (Value.res_main_v24 V0) dstOf := by
  intro e
  unfold Value.res_main_v24 Value.res_main_v14
  pointwise
  rw [pos_one, lit1_eq]
  refine BitVec.eq_of_toNat_eq ?_
  simp only [IntOp.addi, IntOp.muli, BitVec.toNat_add, BitVec.toNat_mul, BitVec.toNat_ofNat, dstOf]
  have := e.isLt
  split <;> omega

end Cert.Egnn

end
-- ==== Proof.RefOps.lean ====
module

public import proofs.«01_k».proof.Proof.Edges

@[expose] public section

noncomputable section

/-! The operations of one layer of the reference, on the arrays of all graphs, each read at one place. -/

namespace Cert.Egnn

open Idealize.ShloMosaic Cert.ReferenceIdeal Cert.ReferenceIdeal.Gen

/-! ## Reading and adding rows along the edges -/

/-- The words as row numbers for reading: the negative ones counted from the end. -/
def wrapI (I : IVec S946176 32) : IVec S946176x1 32 :=
  broadcastInDim S946176x1 ![0] bcast_S946176_S946176x1_0 (select (cmpi .slt I (broadcastInDim S946176 ![] bcast_S_S946176 (constantI S_ 32 0#32)))
    (addi I (broadcastInDim S946176 ![] bcast_S_S946176 (constantI S_ 32 45056#32))) I)

/-- The words as row numbers for adding. -/
def rowsI (I : IVec S946176 32) : IVec S946176x1 32 := broadcastInDim S946176x1 ![0] bcast_S946176_S946176x1_0 I

/-- The positions of the nodes an index array names. -/
def take3 (x : FVec Ideal S45056x3 .f32) (I : IVec S946176 32) : FVec Ideal S946176x3 .f32 :=
  Host.gather gather_S45056x3_S946176x1_S946176x3_1_0_n_n_0_1_13 x (wrapI I)
/-- The features of the nodes an index array names. -/
def take32 (x : FVec Ideal S45056x32 .f32) (I : IVec S946176 32) : FVec Ideal S946176x32 .f32 :=
  Host.gather gather_S45056x32_S946176x1_S946176x32_1_0_n_n_0_1_132 x (wrapI I)
/-- Edge triples added up at the nodes an index array names. -/
def sum3 (I : IVec S946176 32) (u : FVec Ideal S946176x3 .f32) : FVec Ideal S45056x3 .f32 :=
  Host.scatterAdd scatter_S45056x3_S946176x1_S946176x3_1_0_0_1 (broadcastInDim S45056x3 ![] bcast_S_S45056x3 (constant S_ .f32 0x00000000#32)) (rowsI I) u
/-- Edge features added up at the nodes an index array names. -/
def sum32 (I : IVec S946176 32) (u : FVec Ideal S946176x32 .f32) : FVec Ideal S45056x32 .f32 :=
  Host.scatterAdd scatter_S45056x32_S946176x1_S946176x32_1_0_0_1 (broadcastInDim S45056x32 ![] bcast_S_S45056x32 (constant S_ .f32 0x00000000#32)) (rowsI I) u

section
variable {I : IVec S946176 32} {n : Fin 946176 → Fin 45056} (hI : Names I n)

/-- A node's number, as a word, reads back as itself. -/
theorem word_toInt (k : Fin 45056) : (BitVec.ofNat 32 k.val).toInt = (k.val : Int) := by
  have := k.isLt
  rw [BitVec.toInt_eq_toNat_of_lt (by rw [BitVec.toNat_ofNat]; omega), BitVec.toNat_ofNat]
  omega

/-- A node's number, as a word, isn't negative. -/
theorem word_slt (k : Fin 45056) : (BitVec.ofNat 32 k.val).slt 0#32 = false := by
  rw [BitVec.slt, word_toInt]
  simp

include hI

/-- Wrapping negative indices leaves an array that names nodes as it is. -/
theorem wrapI_at (e : Fin 946176) : wrapI I (ix2 e 0) = BitVec.ofNat 32 (n e).val := by
  unfold wrapI
  pointwise
  rw [show I (ix1 e) = BitVec.ofNat 32 (n e).val from hI e]
  simp only [IntOp.cmpi, word_slt, Scalar.select]
  rfl

/-- So does setting it out as a column. -/
theorem rowsI_at (e : Fin 946176) : rowsI I (ix2 e 0) = BitVec.ofNat 32 (n e).val := by
  unfold rowsI
  pointwise
  exact hI e

/-- A taken position is the named node's. -/
theorem take3_at (x : FVec Ideal S45056x3 .f32) (e : Fin 946176) (k : Fin 3) : take3 x I (ix2 e k) = x (ix2 (n e) k) := by
  refine (gather_rows (by decide) gather_S45056x3_S946176x1_S946176x3_1_0_n_n_0_1_13_wf x (wrapI I) e k).trans ?_
  refine congrArg (fun r => x (ix2 r k)) (Fin.ext ?_)
  show min (wrapI I (ix2 e 0)).toInt.toNat (45056 - 1) = (n e).val
  rw [wrapI_at hI, word_toInt]
  have := (n e).isLt
  omega

/-- Taken features are the named node's. -/
theorem take32_at (x : FVec Ideal S45056x32 .f32) (e : Fin 946176) (k : Fin 32) : take32 x I (ix2 e k) = x (ix2 (n e) k) := by
  refine (gather_rows (by decide) gather_S45056x32_S946176x1_S946176x32_1_0_n_n_0_1_132_wf x (wrapI I) e k).trans ?_
  refine congrArg (fun r => x (ix2 r k)) (Fin.ext ?_)
  show min (wrapI I (ix2 e 0)).toInt.toNat (45056 - 1) = (n e).val
  rw [wrapI_at hI, word_toInt]
  have := (n e).isLt
  omega

/-- Adding the edges whose word is a node's number is adding the edges that name the node. -/
theorem sum_named (F : Fin 946176 → EReal) (r : Fin 45056) :
    ∑ e ∈ Finset.univ.filter (fun e : Fin 946176 => (rowsI I (ix2 e 0)).toInt = (r.val : Int)), F e
      = ∑ e ∈ Finset.univ.filter (fun e => n e = r), F e := by
  refine Finset.sum_congr (Finset.filter_congr fun e _ => ?_) fun _ _ => rfl
  rw [rowsI_at hI, word_toInt, Fin.ext_iff]
  omega

end

/-- Triples added up at a node are a sum over its partners. -/
theorem sum3_at {I : IVec S946176 32} (hI : Names I srcOf) (u : FVec Ideal S946176x3 .f32) (b : Fin 2048) (i : Fin 22) (k : Fin 3) :
    sum3 I u (ix2 (node b i) k) = (∑ j : Fin 21, u (ix2 (edge b i j) k) : EReal) := by
  refine (scatter_rows scatter_S45056x3_S946176x1_S946176x3_1_0_0_1_wf (rowsI I) _ u (node b i) k).trans ?_
  rw [sum_named hI, sum_edges (fun e => u (ix2 e k))]
  refine (congrArg (· + _) ?_).trans (zero_add _)
  pointwise

/-- Features added up at a node are a sum over its partners. -/
theorem sum32_at {I : IVec S946176 32} (hI : Names I srcOf) (u : FVec Ideal S946176x32 .f32) (b : Fin 2048) (i : Fin 22) (k : Fin 32) :
    sum32 I u (ix2 (node b i) k) = (∑ j : Fin 21, u (ix2 (edge b i j) k) : EReal) := by
  refine (scatter_rows scatter_S45056x32_S946176x1_S946176x32_1_0_0_1_wf (rowsI I) _ u (node b i) k).trans ?_
  rw [sum_named hI, sum_edges (fun e => u (ix2 e k))]
  refine (congrArg (· + _) ?_).trans (zero_add _)
  pointwise

/-! ## The arithmetic -/

/-- `silu` on every edge's features. -/
def rSilu (p : FVec Ideal S946176x32 .f32) : FVec Ideal S946176x32 .f32 :=
  mulf p (Host.divf (broadcastInDim S946176x32 ![] bcast_S_S946176x32 (constant S_ .f32 0x3F800000#32))
    (addf (broadcastInDim S946176x32 ![] bcast_S_S946176x32 (constant S_ .f32 0x3F800000#32)) (Host.exp (Host.negf p))))
/-- `silu` on every node's features. -/
def nSilu (p : FVec Ideal S45056x32 .f32) : FVec Ideal S45056x32 .f32 :=
  mulf p (Host.divf (broadcastInDim S45056x32 ![] bcast_S_S45056x32 (constant S_ .f32 0x3F800000#32))
    (addf (broadcastInDim S45056x32 ![] bcast_S_S45056x32 (constant S_ .f32 0x3F800000#32)) (Host.exp (Host.negf p))))
/-- The logistic function on every edge's gate. -/
def rLogi (p : FVec Ideal S946176x1 .f32) : FVec Ideal S946176x1 .f32 :=
  Host.divf (broadcastInDim S946176x1 ![] bcast_S_S946176x1 (constant S_ .f32 0x3F800000#32))
    (addf (broadcastInDim S946176x1 ![] bcast_S_S946176x1 (constant S_ .f32 0x3F800000#32)) (Host.exp (Host.negf p)))

/-- Read at an entry it is `silu`. -/
theorem rSilu_at (p : FVec Ideal S946176x32 .f32) (e : Fin 946176) (f : Fin 32) : rSilu p (ix2 e f) = silu (p (ix2 e f)) := by
  unfold rSilu silu Ideal.logistic
  pointwise
/-- Read at an entry it is `silu`. -/
theorem nSilu_at (p : FVec Ideal S45056x32 .f32) (r : Fin 45056) (f : Fin 32) : nSilu p (ix2 r f) = silu (p (ix2 r f)) := by
  unfold nSilu silu Ideal.logistic
  pointwise
/-- Read at an entry it is the logistic function. -/
theorem rLogi_at (p : FVec Ideal S946176x1 .f32) (e : Fin 946176) : rLogi p (ix2 e 0) = Ideal.logistic (p (ix2 e 0)) := by
  unfold rLogi Ideal.logistic
  pointwise

/-- The differences of positions along the edges, and the squared distances. -/
def rDif (x : FVec Ideal S45056x3 .f32) (I J : IVec S946176 32) : FVec Ideal S946176x3 .f32 := subf (take3 x I) (take3 x J)
/-- Every edge's squared distance. -/
def rRad (d : FVec Ideal S946176x3 .f32) : FVec Ideal S946176x1 .f32 :=
  broadcastInDim S946176x1 ![0] bcast_S946176_S946176x1_0 (Host.reduceAdd (mulf d d) (constant S_ .f32 0x00000000#32) reducesTo_S946176x3_S946176_d1 h_S_)

/-- Read at an edge it is the sum of three squares. -/
theorem rRad_at (d : FVec Ideal S946176x3 .f32) (e : Fin 946176) :
    rRad d (ix2 e 0) = (∑ k : Fin 3, d (ix2 e k) * d (ix2 e k) : EReal) := by
  unfold rRad
  pointwise

/-- The products, each with its bias. -/
def rPre (h : FVec Ideal S45056x32 .f32) (I J : IVec S946176 32) (r : FVec Ideal S946176x1 .f32) (w : FVec Ideal S65x32 .f32)
    (z : FVec Ideal S946176x32 .f32) : FVec Ideal S946176x32 .f32 :=
  addf (Host.dotGeneral dot_S946176x65_S65x32_S946176x32_1_0_0_1_n_n none
    (concatenate S946176x65 1 [⟨S946176x32, take32 h I⟩, ⟨S946176x32, take32 h J⟩, ⟨S946176x1, r⟩]
      concatenates_S946176x32_S946176x32_S946176x1_S946176x65_d1) w) z
/-- A linear map with its bias on every edge's features. -/
def rLin (a : FVec Ideal S946176x32 .f32) (w : FVec Ideal S32x32 .f32) (z : FVec Ideal S946176x32 .f32) : FVec Ideal S946176x32 .f32 :=
  addf (Host.dotGeneral dot_S946176x32_S32x32_S946176x32_1_0_0_1_n_n none a w) z
/-- A linear form with its bias on every edge's features. -/
def rDot (a : FVec Ideal S946176x32 .f32) (w : FVec Ideal S32x1 .f32) (z : FVec Ideal S946176x1 .f32) : FVec Ideal S946176x1 .f32 :=
  addf (Host.dotGeneral dot_S946176x32_S32x1_S946176x1_1_0_0_1_n_n none a w) z
/-- A linear map with its bias on every node's features. -/
def nLin (a : FVec Ideal S45056x32 .f32) (w : FVec Ideal S32x32 .f32) (z : FVec Ideal S45056x32 .f32) : FVec Ideal S45056x32 .f32 :=
  addf (Host.dotGeneral dot_S45056x32_S32x32_S45056x32_1_0_0_1_n_n none a w) z
/-- The node map's first product: of the features beside the summed messages. -/
def nPre (h g : FVec Ideal S45056x32 .f32) (w : FVec Ideal S64x32 .f32) (z : FVec Ideal S45056x32 .f32) : FVec Ideal S45056x32 .f32 :=
  addf (Host.dotGeneral dot_S45056x64_S64x32_S45056x32_1_0_0_1_n_n none
    (concatenate S45056x64 1 [⟨S45056x32, h⟩, ⟨S45056x32, g⟩] concatenates_S45056x32_S45056x32_S45056x64_d1) w) z

section
variable (w : FVec Ideal S32x32 .f32)

/-- With zero bias it is the row times the matrix. -/
theorem rLin_at (a z : FVec Ideal S946176x32 .f32) (e : Fin 946176) (f : Fin 32) (hz : z (ix2 e f) = (0 : EReal)) :
    rLin a w z (ix2 e f) = (∑ k : Fin 32, a (ix2 e k) * w (ix2 k f) : EReal) := by
  unfold rLin
  pointwise
  exact (congrArg _ hz).trans (add_zero _)

/-- With zero bias it is the row times the matrix. -/
theorem nLin_at (a z : FVec Ideal S45056x32 .f32) (r : Fin 45056) (f : Fin 32) (hz : z (ix2 r f) = (0 : EReal)) :
    nLin a w z (ix2 r f) = (∑ k : Fin 32, a (ix2 r k) * w (ix2 k f) : EReal) := by
  unfold nLin
  pointwise
  exact (congrArg _ hz).trans (add_zero _)

end

/-- With zero bias it is the row times the column. -/
theorem rDot_at (a : FVec Ideal S946176x32 .f32) (w : FVec Ideal S32x1 .f32) (z : FVec Ideal S946176x1 .f32)
    (e : Fin 946176) (hz : z (ix2 e 0) = (0 : EReal)) :
    rDot a w z (ix2 e 0) = (∑ k : Fin 32, a (ix2 e k) * w (ix2 k 0) : EReal) := by
  unfold rDot
  pointwise
  exact (congrArg _ hz).trans (add_zero _)

/-- With zero bias it is the sum of the two halves' products. -/
theorem nPre_at (h g : FVec Ideal S45056x32 .f32) (w : FVec Ideal S64x32 .f32) (z : FVec Ideal S45056x32 .f32)
    (r : Fin 45056) (f : Fin 32) (hz : z (ix2 r f) = (0 : EReal)) :
    nPre h g w z (ix2 r f) = ((∑ k : Fin 32, h (ix2 r k) * w (ix2 ⟨k.val, by omega⟩ f))
      + ∑ k : Fin 32, g (ix2 r k) * w (ix2 ⟨32 + k.val, by omega⟩ f) : EReal) := by
  unfold nPre
  pointwise
  exact (congrArg _ hz).trans (add_zero _)

/-- A sum over the 65 columns: the two nodes' features and the squared distance. -/
theorem sum_cols (F : Fin 65 → EReal) : ∑ k, F k
    = (∑ k : Fin 32, F ⟨k.val, by omega⟩) + (∑ k : Fin 32, F ⟨32 + k.val, by omega⟩) + F 64 := by
  rw [Fin.sum_univ_castSucc]
  refine congrArg₂ (fun x y : EReal => x + y) ?_ rfl
  exact Fin.sum_univ_add (a := 32) (b := 32) fun k : Fin (32 + 32) => F ⟨k.val, by omega⟩

/-- With zero bias it is the sum of the two nodes' products and the squared distance's. -/
theorem rPre_at (h : FVec Ideal S45056x32 .f32) (I J : IVec S946176 32) (r : FVec Ideal S946176x1 .f32) (w : FVec Ideal S65x32 .f32)
    (z : FVec Ideal S946176x32 .f32) (e : Fin 946176) (f : Fin 32) (hz : z (ix2 e f) = (0 : EReal)) :
    rPre h I J r w z (ix2 e f) = ((∑ k : Fin 32, take32 h I (ix2 e k) * w (ix2 ⟨k.val, by omega⟩ f))
      + (∑ k : Fin 32, take32 h J (ix2 e k) * w (ix2 ⟨32 + k.val, by omega⟩ f)) + r (ix2 e 0) * w (ix2 64 f) : EReal) := by
  unfold rPre
  pointwise
  refine (congrArg _ hz).trans ((add_zero _).trans ((sum_cols _).trans ?_))
  refine congrArg₂ (fun x y : EReal => x + y) (congrArg₂ (fun x y : EReal => x + y)
    (Finset.sum_congr rfl fun k _ => ?_) (Finset.sum_congr rfl fun k _ => ?_)) rfl
  · exact congrArg (fun u : EReal => u * w (ix2 ⟨k.val, by omega⟩ f)) (dif_pos k.isLt)
  · refine congrArg (fun u : EReal => u * w (ix2 ⟨32 + k.val, by omega⟩ f)) ?_
    refine (dif_neg (show ¬ 32 + k.val < 32 by omega)).trans ((dif_pos (show 32 + k.val - 32 < 32 by omega)).trans ?_)
    exact congrArg (fun u => take32 h J (ix2 e u)) (Fin.ext (by show 32 + k.val - 32 = k.val; omega))

end Cert.Egnn

end
-- ==== Proof.Args.lean ====
module

public import proofs.«01_k».proof.Proof.Spec
public import Idealize.ShloMosaic.Lib.Pointwise

@[expose] public section

noncomputable section

/-! The arguments the result depends on, and the graph's positions, features and weights read off them. -/

namespace Cert.Egnn

open Idealize.ShloMosaic

/-- The eleven arguments that are no biases, as arrays of extended reals. -/
structure Args where
  s : (⟨2, ![2048, 66]⟩ : Shape).Idx → EReal
  t : (⟨1, ![1]⟩ : Shape).Idx → EReal
  h0 : (⟨2, ![22, 22]⟩ : Shape).Idx → EReal
  emb : (⟨2, ![23, 32]⟩ : Shape).Idx → EReal
  e1 : (⟨3, ![2, 65, 32]⟩ : Shape).Idx → EReal
  e2 : (⟨3, ![2, 32, 32]⟩ : Shape).Idx → EReal
  att : (⟨3, ![2, 32, 1]⟩ : Shape).Idx → EReal
  n1 : (⟨3, ![2, 64, 32]⟩ : Shape).Idx → EReal
  n2 : (⟨3, ![2, 32, 32]⟩ : Shape).Idx → EReal
  c1 : (⟨3, ![2, 32, 32]⟩ : Shape).Idx → EReal
  c2 : (⟨3, ![2, 32, 1]⟩ : Shape).Idx → EReal

variable (a : Args)

/-- Layer `g`'s weights. -/
def Args.weights (g : Fin 2) : Weights where
  A e f := a.e1 (ix3 g ⟨e.val, by omega⟩ f)
  B e f := a.e1 (ix3 g ⟨32 + e.val, by omega⟩ f)
  C f := a.e1 (ix3 g 64 f)
  E2 e f := a.e2 (ix3 g e f)
  att e := a.att (ix3 g e 0)
  C1 e f := a.c1 (ix3 g e f)
  c2 e := a.c2 (ix3 g e 0)
  N1a e f := a.n1 (ix3 g ⟨e.val, by omega⟩ f)
  N1b e f := a.n1 (ix3 g ⟨32 + e.val, by omega⟩ f)
  N2 e f := a.n2 (ix3 g e f)

/-- Graph `b`'s positions. -/
def Args.pos (b : Fin 2048) (i : Fin 22) (k : Fin 3) : EReal := a.s (ix2 b ⟨i.val * 3 + k.val, by omega⟩)

/-- The features every graph starts with: the one-hot table with the time beside it, through the embedding. -/
def Args.feat (i : Fin 22) (f : Fin 32) : EReal :=
  (∑ k : Fin 22, a.h0 (ix2 i k) * a.emb (ix2 ⟨k.val, by omega⟩ f)) + a.t (ix1 0) * a.emb (ix2 22 f)

/-- The result at an index: the velocity's coordinates in the left half, zeros in the right. -/
def Args.result (b : Fin 2048) (j : Fin 132) : EReal :=
  if h : j.val < 66 then velocity (a.weights 0) (a.weights 1) (a.pos b) a.feat ⟨j.val / 3, by omega⟩ ⟨j.val % 3, by omega⟩ else 0

end Cert.Egnn

end
-- ==== Proof.RefLayer.lean ====
module

public import proofs.«01_k».proof.Proof.RefOps
public import proofs.«01_k».proof.Proof.Args

@[expose] public section

noncomputable section

/-! One layer of the reference on all graphs: its new positions and features are, graph by graph, the layer's. -/

namespace Cert.Egnn

open Idealize.ShloMosaic Cert.ReferenceIdeal Cert.ReferenceIdeal.Gen

/-- One layer's weights and biases, as the reference reads them. -/
structure RW where
  e1 : FVec Ideal S65x32 .f32
  e1b : FVec Ideal S946176x32 .f32
  e2 : FVec Ideal S32x32 .f32
  e2b : FVec Ideal S946176x32 .f32
  att : FVec Ideal S32x1 .f32
  attb : FVec Ideal S946176x1 .f32
  n1 : FVec Ideal S64x32 .f32
  n1b : FVec Ideal S45056x32 .f32
  n2 : FVec Ideal S32x32 .f32
  n2b : FVec Ideal S45056x32 .f32
  c1 : FVec Ideal S32x32 .f32
  c1b : FVec Ideal S946176x32 .f32
  c2 : FVec Ideal S32x1 .f32
  c2b : FVec Ideal S946176x1 .f32

/-- The arrays hold the weights `W`, and the biases are zero. -/
structure RW.Holds (R : RW) (W : Weights) : Prop where
  e1a : ∀ k f : Fin 32, R.e1 (ix2 ⟨k.val, by omega⟩ f) = W.A k f
  e1c : ∀ k f : Fin 32, R.e1 (ix2 ⟨32 + k.val, by omega⟩ f) = W.B k f
  e1d : ∀ f : Fin 32, R.e1 (ix2 64 f) = W.C f
  e1b : ∀ e f, R.e1b (ix2 e f) = (0 : EReal)
  e2 : ∀ k f, R.e2 (ix2 k f) = W.E2 k f
  e2b : ∀ e f, R.e2b (ix2 e f) = (0 : EReal)
  att : ∀ k, R.att (ix2 k 0) = W.att k
  attb : ∀ e, R.attb (ix2 e 0) = (0 : EReal)
  n1a : ∀ k f : Fin 32, R.n1 (ix2 ⟨k.val, by omega⟩ f) = W.N1a k f
  n1c : ∀ k f : Fin 32, R.n1 (ix2 ⟨32 + k.val, by omega⟩ f) = W.N1b k f
  n1b : ∀ r f, R.n1b (ix2 r f) = (0 : EReal)
  n2 : ∀ k f, R.n2 (ix2 k f) = W.N2 k f
  n2b : ∀ r f, R.n2b (ix2 r f) = (0 : EReal)
  c1 : ∀ k f, R.c1 (ix2 k f) = W.C1 k f
  c1b : ∀ e f, R.c1b (ix2 e f) = (0 : EReal)
  c2 : ∀ k, R.c2 (ix2 k 0) = W.c2 k
  c2b : ∀ e, R.c2b (ix2 e 0) = (0 : EReal)

variable (R : RW) (x : FVec Ideal S45056x3 .f32) (h : FVec Ideal S45056x32 .f32) (I J : IVec S946176 32)

/-- Every edge's message before the first activation. -/
def RW.pre : FVec Ideal S946176x32 .f32 := rPre h I J (rRad (rDif x I J)) R.e1 R.e1b
/-- Every edge's message before the gate. -/
def RW.edge : FVec Ideal S946176x32 .f32 := rSilu (rLin (rSilu (R.pre x h I J)) R.e2 R.e2b)
/-- Every edge's message, gated. -/
def RW.msg : FVec Ideal S946176x32 .f32 :=
  mulf (R.edge x h I J) (broadcastInDim S946176x32 ![0, 1] bcast_S946176x1_S946176x32_0_1 (rLogi (rDot (R.edge x h I J) R.att R.attb)))
/-- Every edge's factor of its direction. -/
def RW.coord : FVec Ideal S946176x1 .f32 := Host.tanh (rDot (rSilu (rLin (R.msg x h I J) R.c1 R.c1b)) R.c2 R.c2b)

/-- The differences over the distances plus one. -/
def rDirn : FVec Ideal S946176x3 .f32 :=
  Host.divf (rDif x I J) (broadcastInDim S946176x3 ![0, 1] bcast_S946176x1_S946176x3_0_1
    (addf (Host.sqrt (addf (rRad (rDif x I J)) (broadcastInDim S946176x1 ![] bcast_S_S946176x1 (constant S_ .f32 0x322BCC77#32))))
      (broadcastInDim S946176x1 ![] bcast_S_S946176x1 (constant S_ .f32 0x3F800000#32))))

/-- The positions after the layer, and the features. -/
def RW.nextX : FVec Ideal S45056x3 .f32 :=
  addf x (sum3 I (mulf (rDirn x I J) (broadcastInDim S946176x3 ![0, 1] bcast_S946176x1_S946176x3_0_1 (R.coord x h I J))))
/-- The features after the layer. -/
def RW.nextH : FVec Ideal S45056x32 .f32 :=
  addf h (nLin (nSilu (nPre h (sum32 I (R.msg x h I J)) R.n1 R.n1b)) R.n2 R.n2b)

/-! ## Each at an edge or a node -/

section
variable {R x h I J} {W : Weights} (hR : R.Holds W) (hI : Names I srcOf) (hJ : Names J dstOf)
  {X : Fin 2048 → Fin 22 → Fin 3 → EReal} {H : Fin 2048 → Fin 22 → Fin 32 → EReal}
  (hx : ∀ b i k, x (ix2 (node b i) k) = X b i k) (hh : ∀ b i f, h (ix2 (node b i) f) = H b i f)
  (b : Fin 2048) (i : Fin 22) (j : Fin 21)

include hI hJ hx in
/-- At an edge the difference is that of the two nodes' positions. -/
theorem rDif_at (k : Fin 3) : rDif x I J (ix2 (edge b i j) k) = dif (X b) i (i.succAbove j) k := by
  show (take3 x I (ix2 (edge b i j) k) : EReal) - take3 x J (ix2 (edge b i j) k) = _
  rw [take3_at hI, take3_at hJ, srcOf_edge, dstOf_edge, hx, hx]
  rfl

include hI hJ hx in
/-- At an edge the squared distance is that of the two nodes. -/
theorem rRad_edge : rRad (rDif x I J) (ix2 (edge b i j) 0) = rad (X b) i (i.succAbove j) := by
  rw [rRad_at]
  exact Finset.sum_congr rfl fun k _ => congrArg₂ (fun u v : EReal => u * v) (rDif_at hI hJ hx b i j k) (rDif_at hI hJ hx b i j k)

include hI hJ hx in
/-- At an edge the direction is that between the two nodes. -/
theorem rDirn_at (k : Fin 3) : rDirn x I J (ix2 (edge b i j) k) = dirn (X b) i (i.succAbove j) k := by
  unfold rDirn dirn
  pointwise
  rw [rDif_at hI hJ hx, rRad_edge hI hJ hx]
  rfl

include hR hI hJ hx hh in
/-- At an edge the first product is the network's. -/
theorem pre_at (f : Fin 32) : R.pre x h I J (ix2 (edge b i j) f) = pre W (X b) (H b) i (i.succAbove j) f := by
  unfold RW.pre pre vecMat
  rw [rPre_at _ _ _ _ _ _ _ _ (hR.e1b _ _)]
  simp only [take32_at hI, take32_at hJ, srcOf_edge, dstOf_edge, hh, hR.e1a, hR.e1c, hR.e1d, rRad_edge hI hJ hx]

include hR hI hJ hx hh in
/-- At an edge the second activation is the network's. -/
theorem edge_at (f : Fin 32) : R.edge x h I J (ix2 (edge b i j) f) = edgeOut W (pre W (X b) (H b) i (i.succAbove j)) f := by
  unfold RW.edge edgeOut vecMat
  rw [rSilu_at, rLin_at _ _ _ _ _ (hR.e2b _ _)]
  simp only [rSilu_at, pre_at hR hI hJ hx hh, hR.e2]

include hR hI hJ hx hh in
/-- At an edge the message is the network's. -/
theorem msg_at (f : Fin 32) : R.msg x h I J (ix2 (edge b i j) f) = msg W (X b) (H b) i (i.succAbove j) f := by
  unfold RW.msg msg gated
  pointwise
  rw [rLogi_at, rDot_at _ _ _ _ (hR.attb _)]
  simp only [edge_at hR hI hJ hx hh, hR.att]

include hR hI hJ hx hh in
/-- At an edge the factor is the network's. -/
theorem coord_at : R.coord x h I J (ix2 (edge b i j) 0) = coordOf W (msg W (X b) (H b) i (i.succAbove j)) := by
  unfold RW.coord coordOf vecMat
  show Ideal.tanh (rDot _ _ _ (ix2 (edge b i j) 0)) = _
  rw [rDot_at _ _ _ _ (hR.c2b _)]
  simp only [rSilu_at, rLin_at _ _ _ _ _ (hR.c1b _ _), msg_at hR hI hJ hx hh, hR.c1, hR.c2]

include hR hI hJ hx hh in
/-- At a node the new position is the network's. -/
theorem nextX_at (k : Fin 3) : R.nextX x h I J (ix2 (node b i) k) = nextX W (X b) (H b) i k := by
  unfold RW.nextX nextX
  show (x (ix2 (node b i) k) : EReal) + sum3 I _ (ix2 (node b i) k) = _
  rw [sum3_at hI, hx, sum_others]
  refine congrArg (fun u : EReal => X b i k + u) (Finset.sum_congr rfl fun j _ => ?_)
  pointwise
  rw [rDirn_at hI hJ hx, coord_at hR hI hJ hx hh]

include hR hI hJ hx hh in
/-- At a node the new features are the network's. -/
theorem nextH_at (f : Fin 32) : R.nextH x h I J (ix2 (node b i) f) = nextH W (X b) (H b) i f := by
  unfold RW.nextH nextH vecMat nodePre agg vecMat
  show (h (ix2 (node b i) f) : EReal) + nLin _ _ _ (ix2 (node b i) f) = _
  rw [nLin_at _ _ _ _ _ (hR.n2b _ _), hh]
  simp only [nSilu_at, nPre_at _ _ _ _ _ _ (hR.n1b _ _), sum32_at hI, msg_at hR hI hJ hx hh, hh, hR.n1a, hR.n1c, hR.n2, sum_others]

end

end Cert.Egnn

end
-- ==== Proof.RefValue.lean ====
module

public import proofs.«01_k».proof.Proof.RefLayer

@[expose] public section

noncomputable section

/-! The reference's result: with zero biases, the velocities of all graphs beside zeros. -/

namespace Cert.Egnn

open Idealize.ShloMosaic Idealize.ShloMosaic.StableHlo Cert.ReferenceIdeal Cert.ReferenceIdeal.Gen Cert.ReferenceIdeal.Value

variable (V0 : Valuation τ sig (Elt Ideal))

/-- The reference's arguments that are no biases. -/
def rArgs : Args :=
  ⟨V0 (Proc.devRef .tc main_arg0), V0 (Proc.devRef .tc main_arg1), V0 (Proc.devRef .tc main_arg2), V0 (Proc.devRef .tc main_arg3),
    V0 (Proc.devRef .tc main_arg5), V0 (Proc.devRef .tc main_arg7), V0 (Proc.devRef .tc main_arg9), V0 (Proc.devRef .tc main_arg11),
    V0 (Proc.devRef .tc main_arg13), V0 (Proc.devRef .tc main_arg15), V0 (Proc.devRef .tc main_arg17)⟩

/-- The biases are zero. -/
structure NoBias : Prop where
  emb : ∀ i, (V0 (Proc.devRef .tc main_arg4) : FVec Ideal S32 .f32) i = (0 : EReal)
  e1 : ∀ i, (V0 (Proc.devRef .tc main_arg6) : FVec Ideal S2x32 .f32) i = (0 : EReal)
  e2 : ∀ i, (V0 (Proc.devRef .tc main_arg8) : FVec Ideal S2x32 .f32) i = (0 : EReal)
  att : ∀ i, (V0 (Proc.devRef .tc main_arg10) : FVec Ideal S2x1 .f32) i = (0 : EReal)
  n1 : ∀ i, (V0 (Proc.devRef .tc main_arg12) : FVec Ideal S2x32 .f32) i = (0 : EReal)
  n2 : ∀ i, (V0 (Proc.devRef .tc main_arg14) : FVec Ideal S2x32 .f32) i = (0 : EReal)
  c1 : ∀ i, (V0 (Proc.devRef .tc main_arg16) : FVec Ideal S2x32 .f32) i = (0 : EReal)
  c2 : ∀ i, (V0 (Proc.devRef .tc main_arg18) : FVec Ideal S2x1 .f32) i = (0 : EReal)

/-- The first layer's weights and biases. -/
def rw0 : RW where
  e1 := shapeCast S65x32 (extractStridedSlice S1x65x32 ![0, 0, 0] (V0 (Proc.devRef .tc main_arg5)) slices_S2x65x32_S1x65x32_0_0_0) shapeCasts_S1x65x32_S65x32
  e1b := broadcastInDim S946176x32 ![0, 1] bcast_S1x32_S946176x32_0_1 (broadcastInDim S1x32 ![1] bcast_S32_S1x32_1 (shapeCast S32 (extractStridedSlice S1x32 ![0, 0] (V0 (Proc.devRef .tc main_arg6)) slices_S2x32_S1x32_0_0) shapeCasts_S1x32_S32))
  e2 := shapeCast S32x32 (extractStridedSlice S1x32x32 ![0, 0, 0] (V0 (Proc.devRef .tc main_arg7)) slices_S2x32x32_S1x32x32_0_0_0) shapeCasts_S1x32x32_S32x32
  e2b := broadcastInDim S946176x32 ![0, 1] bcast_S1x32_S946176x32_0_1 (broadcastInDim S1x32 ![1] bcast_S32_S1x32_1 (shapeCast S32 (extractStridedSlice S1x32 ![0, 0] (V0 (Proc.devRef .tc main_arg8)) slices_S2x32_S1x32_0_0) shapeCasts_S1x32_S32))
  att := shapeCast S32x1 (extractStridedSlice S1x32x1 ![0, 0, 0] (V0 (Proc.devRef .tc main_arg9)) slices_S2x32x1_S1x32x1_0_0_0) shapeCasts_S1x32x1_S32x1
  attb := broadcastInDim S946176x1 ![0, 1] bcast_S1x1_S946176x1_0_1 (broadcastInDim S1x1 ![1] bcast_S1_S1x1_1 (shapeCast S1 (extractStridedSlice S1x1 ![0, 0] (V0 (Proc.devRef .tc main_arg10)) slices_S2x1_S1x1_0_0) shapeCasts_S1x1_S1))
  n1 := shapeCast S64x32 (extractStridedSlice S1x64x32 ![0, 0, 0] (V0 (Proc.devRef .tc main_arg11)) slices_S2x64x32_S1x64x32_0_0_0) shapeCasts_S1x64x32_S64x32
  n1b := broadcastInDim S45056x32 ![0, 1] bcast_S1x32_S45056x32_0_1 (broadcastInDim S1x32 ![1] bcast_S32_S1x32_1 (shapeCast S32 (extractStridedSlice S1x32 ![0, 0] (V0 (Proc.devRef .tc main_arg12)) slices_S2x32_S1x32_0_0) shapeCasts_S1x32_S32))
  n2 := shapeCast S32x32 (extractStridedSlice S1x32x32 ![0, 0, 0] (V0 (Proc.devRef .tc main_arg13)) slices_S2x32x32_S1x32x32_0_0_0) shapeCasts_S1x32x32_S32x32
  n2b := broadcastInDim S45056x32 ![0, 1] bcast_S1x32_S45056x32_0_1 (broadcastInDim S1x32 ![1] bcast_S32_S1x32_1 (shapeCast S32 (extractStridedSlice S1x32 ![0, 0] (V0 (Proc.devRef .tc main_arg14)) slices_S2x32_S1x32_0_0) shapeCasts_S1x32_S32))
  c1 := shapeCast S32x32 (extractStridedSlice S1x32x32 ![0, 0, 0] (V0 (Proc.devRef .tc main_arg15)) slices_S2x32x32_S1x32x32_0_0_0) shapeCasts_S1x32x32_S32x32
  c1b := broadcastInDim S946176x32 ![0, 1] bcast_S1x32_S946176x32_0_1 (broadcastInDim S1x32 ![1] bcast_S32_S1x32_1 (shapeCast S32 (extractStridedSlice S1x32 ![0, 0] (V0 (Proc.devRef .tc main_arg16)) slices_S2x32_S1x32_0_0) shapeCasts_S1x32_S32))
  c2 := shapeCast S32x1 (extractStridedSlice S1x32x1 ![0, 0, 0] (V0 (Proc.devRef .tc main_arg17)) slices_S2x32x1_S1x32x1_0_0_0) shapeCasts_S1x32x1_S32x1
  c2b := broadcastInDim S946176x1 ![0, 1] bcast_S1x1_S946176x1_0_1 (broadcastInDim S1x1 ![1] bcast_S1_S1x1_1 (shapeCast S1 (extractStridedSlice S1x1 ![0, 0] (V0 (Proc.devRef .tc main_arg18)) slices_S2x1_S1x1_0_0) shapeCasts_S1x1_S1))

/-- The second layer's weights and biases. -/
def rw1 : RW where
  e1 := shapeCast S65x32 (extractStridedSlice S1x65x32 ![1, 0, 0] (V0 (Proc.devRef .tc main_arg5)) slices_S2x65x32_S1x65x32_1_0_0) shapeCasts_S1x65x32_S65x32
  e1b := broadcastInDim S946176x32 ![0, 1] bcast_S1x32_S946176x32_0_1 (broadcastInDim S1x32 ![1] bcast_S32_S1x32_1 (shapeCast S32 (extractStridedSlice S1x32 ![1, 0] (V0 (Proc.devRef .tc main_arg6)) slices_S2x32_S1x32_1_0) shapeCasts_S1x32_S32))
  e2 := shapeCast S32x32 (extractStridedSlice S1x32x32 ![1, 0, 0] (V0 (Proc.devRef .tc main_arg7)) slices_S2x32x32_S1x32x32_1_0_0) shapeCasts_S1x32x32_S32x32
  e2b := broadcastInDim S946176x32 ![0, 1] bcast_S1x32_S946176x32_0_1 (broadcastInDim S1x32 ![1] bcast_S32_S1x32_1 (shapeCast S32 (extractStridedSlice S1x32 ![1, 0] (V0 (Proc.devRef .tc main_arg8)) slices_S2x32_S1x32_1_0) shapeCasts_S1x32_S32))
  att := shapeCast S32x1 (extractStridedSlice S1x32x1 ![1, 0, 0] (V0 (Proc.devRef .tc main_arg9)) slices_S2x32x1_S1x32x1_1_0_0) shapeCasts_S1x32x1_S32x1
  attb := broadcastInDim S946176x1 ![0, 1] bcast_S1x1_S946176x1_0_1 (broadcastInDim S1x1 ![1] bcast_S1_S1x1_1 (shapeCast S1 (extractStridedSlice S1x1 ![1, 0] (V0 (Proc.devRef .tc main_arg10)) slices_S2x1_S1x1_1_0) shapeCasts_S1x1_S1))
  n1 := shapeCast S64x32 (extractStridedSlice S1x64x32 ![1, 0, 0] (V0 (Proc.devRef .tc main_arg11)) slices_S2x64x32_S1x64x32_1_0_0) shapeCasts_S1x64x32_S64x32
  n1b := broadcastInDim S45056x32 ![0, 1] bcast_S1x32_S45056x32_0_1 (broadcastInDim S1x32 ![1] bcast_S32_S1x32_1 (shapeCast S32 (extractStridedSlice S1x32 ![1, 0] (V0 (Proc.devRef .tc main_arg12)) slices_S2x32_S1x32_1_0) shapeCasts_S1x32_S32))
  n2 := shapeCast S32x32 (extractStridedSlice S1x32x32 ![1, 0, 0] (V0 (Proc.devRef .tc main_arg13)) slices_S2x32x32_S1x32x32_1_0_0) shapeCasts_S1x32x32_S32x32
  n2b := broadcastInDim S45056x32 ![0, 1] bcast_S1x32_S45056x32_0_1 (broadcastInDim S1x32 ![1] bcast_S32_S1x32_1 (shapeCast S32 (extractStridedSlice S1x32 ![1, 0] (V0 (Proc.devRef .tc main_arg14)) slices_S2x32_S1x32_1_0) shapeCasts_S1x32_S32))
  c1 := shapeCast S32x32 (extractStridedSlice S1x32x32 ![1, 0, 0] (V0 (Proc.devRef .tc main_arg15)) slices_S2x32x32_S1x32x32_1_0_0) shapeCasts_S1x32x32_S32x32
  c1b := broadcastInDim S946176x32 ![0, 1] bcast_S1x32_S946176x32_0_1 (broadcastInDim S1x32 ![1] bcast_S32_S1x32_1 (shapeCast S32 (extractStridedSlice S1x32 ![1, 0] (V0 (Proc.devRef .tc main_arg16)) slices_S2x32_S1x32_1_0) shapeCasts_S1x32_S32))
  c2 := shapeCast S32x1 (extractStridedSlice S1x32x1 ![1, 0, 0] (V0 (Proc.devRef .tc main_arg17)) slices_S2x32x1_S1x32x1_1_0_0) shapeCasts_S1x32x1_S32x1
  c2b := broadcastInDim S946176x1 ![0, 1] bcast_S1x1_S946176x1_0_1 (broadcastInDim S1x1 ![1] bcast_S1_S1x1_1 (shapeCast S1 (extractStridedSlice S1x1 ![1, 0] (V0 (Proc.devRef .tc main_arg18)) slices_S2x1_S1x1_1_0) shapeCasts_S1x1_S1))

/-- With zero biases they are the arguments' first layer. -/
theorem rw0_holds (hz : NoBias V0) : (rw0 V0).Holds ((rArgs V0).weights 0) where
  e1a k f := by
    unfold rw0
    pointwise
    rfl
  e1c k f := by
    unfold rw0
    pointwise
    rfl
  e1d f := by
    unfold rw0
    pointwise
    rfl
  e2 k f := by
    unfold rw0
    pointwise
    rfl
  att k := by
    unfold rw0
    pointwise
    rfl
  n1a k f := by
    unfold rw0
    pointwise
    rfl
  n1c k f := by
    unfold rw0
    pointwise
    rfl
  n2 k f := by
    unfold rw0
    pointwise
    rfl
  c1 k f := by
    unfold rw0
    pointwise
    rfl
  c2 k := by
    unfold rw0
    pointwise
    rfl
  e1b e f := by
    unfold rw0
    pointwise
    exact hz.e1 _
  e2b e f := by
    unfold rw0
    pointwise
    exact hz.e2 _
  attb e := by
    unfold rw0
    pointwise
    exact hz.att _
  n1b e f := by
    unfold rw0
    pointwise
    exact hz.n1 _
  n2b e f := by
    unfold rw0
    pointwise
    exact hz.n2 _
  c1b e f := by
    unfold rw0
    pointwise
    exact hz.c1 _
  c2b e := by
    unfold rw0
    pointwise
    exact hz.c2 _

/-- With zero biases they are the arguments' second layer. -/
theorem rw1_holds (hz : NoBias V0) : (rw1 V0).Holds ((rArgs V0).weights 1) where
  e1a k f := by
    unfold rw1
    pointwise
    rfl
  e1c k f := by
    unfold rw1
    pointwise
    rfl
  e1d f := by
    unfold rw1
    pointwise
    rfl
  e2 k f := by
    unfold rw1
    pointwise
    rfl
  att k := by
    unfold rw1
    pointwise
    rfl
  n1a k f := by
    unfold rw1
    pointwise
    rfl
  n1c k f := by
    unfold rw1
    pointwise
    rfl
  n2 k f := by
    unfold rw1
    pointwise
    rfl
  c1 k f := by
    unfold rw1
    pointwise
    rfl
  c2 k := by
    unfold rw1
    pointwise
    rfl
  e1b e f := by
    unfold rw1
    pointwise
    exact hz.e1 _
  e2b e f := by
    unfold rw1
    pointwise
    exact hz.e2 _
  attb e := by
    unfold rw1
    pointwise
    exact hz.att _
  n1b e f := by
    unfold rw1
    pointwise
    exact hz.n1 _
  n2b e f := by
    unfold rw1
    pointwise
    exact hz.n2 _
  c1b e f := by
    unfold rw1
    pointwise
    exact hz.c1 _
  c2b e := by
    unfold rw1
    pointwise
    exact hz.c2 _

/-- The reference's positions after the first layer are that layer's. -/
theorem v122_eq : res_main_v122 V0 = (rw0 V0).nextX (res_main_v0 V0) (res_main_v10 V0) (res_main_v19 V0) (res_main_v24 V0) := rfl

/-- So are its features. -/
theorem v144_eq : res_main_v144 V0 = (rw0 V0).nextH (res_main_v0 V0) (res_main_v10 V0) (res_main_v19 V0) (res_main_v24 V0) := rfl

/-- The positions the reference starts from. -/
theorem v0_at (b : Fin 2048) (i : Fin 22) (k : Fin 3) :
    (res_main_v0 V0 : FVec Ideal S45056x3 .f32) (ix2 (node b i) k) = (rArgs V0).pos b i k := by
  unfold res_main_v0 Args.pos rArgs
  pointwise
  congr 2
  · exact Fin.ext (show (b.val * 22 + i.val) / 22 = b.val by omega)
  · exact Fin.ext (show (b.val * 22 + i.val) % 22 * 3 + k.val = i.val * 3 + k.val by omega)

/-- The features it starts from: the embedding of the node's type and the time. -/
theorem v10_at (hz : NoBias V0) (b : Fin 2048) (i : Fin 22) (f : Fin 32) :
    (res_main_v10 V0 : FVec Ideal S45056x32 .f32) (ix2 (node b i) f) = (rArgs V0).feat i f := by
  unfold res_main_v10 Args.feat rArgs
  pointwise
  have hi : (⟨(node b i).val % 22, Nat.mod_lt _ (by decide)⟩ : Fin 22) = i :=
    Fin.ext (show (b.val * 22 + i.val) % 22 = i.val by omega)
  simp only [hi]
  refine (congrArg _ (hz.emb _)).trans ((add_zero (_ : EReal)).trans ?_)
  exact congrArg (fun z : EReal => _ + z) (Fin.sum_univ_one _)

/-- The positions after both layers. -/
def lastX : FVec Ideal S45056x3 .f32 := (rw1 V0).nextX (res_main_v122 V0) (res_main_v144 V0) (res_main_v19 V0) (res_main_v24 V0)

/-- Read at a node, they are the network's. -/
theorem lastX_at (hz : NoBias V0) (b : Fin 2048) (i : Fin 22) (k : Fin 3) : lastX V0 (ix2 (node b i) k)
    = nextX ((rArgs V0).weights 1) (nextX ((rArgs V0).weights 0) ((rArgs V0).pos b) (rArgs V0).feat)
        (nextH ((rArgs V0).weights 0) ((rArgs V0).pos b) (rArgs V0).feat) i k := by
  have hI := v19_names V0
  have hJ := v24_names V0
  refine nextX_at (rw1_holds V0 hz) hI hJ (X := fun b => nextX ((rArgs V0).weights 0) ((rArgs V0).pos b) (rArgs V0).feat)
    (H := fun b => nextH ((rArgs V0).weights 0) ((rArgs V0).pos b) (rArgs V0).feat) ?_ ?_ b i k
  · intro b i k
    rw [v122_eq]
    exact nextX_at (rw0_holds V0 hz) hI hJ (X := (rArgs V0).pos) (H := fun _ => (rArgs V0).feat) (v0_at V0) (v10_at V0 hz) b i k
  · intro b i f
    rw [v144_eq]
    exact nextH_at (rw0_holds V0 hz) hI hJ (X := (rArgs V0).pos) (H := fun _ => (rArgs V0).feat) (v0_at V0) (v10_at V0 hz) b i f

/-- The reference's result. -/
def rResult : FVec Ideal S2048x132 .f32 :=
  concatenate S2048x132 1 [⟨S2048x66, shapeCast S2048x66 (subf (lastX V0) (res_main_v0 V0)) shapeCasts_S45056x3_S2048x66⟩,
    ⟨S2048x66, broadcastInDim S2048x66 ![] bcast_S_S2048x66 (constant S_ .f32 0x00000000#32)⟩] concatenates_S2048x66_S2048x66_S2048x132_d1

/-- With zero biases it is the velocities beside zeros. -/
theorem rResult_eq (hz : NoBias V0) : rResult V0 = fun x => (rArgs V0).result ⟨(x 0).val, (x 0).isLt⟩ ⟨(x 1).val, (x 1).isLt⟩ := by
  funext x
  obtain ⟨b, j, rfl⟩ : ∃ (b : Fin 2048) (j : Fin 132), x = ix2 b j :=
    ⟨x 0, x 1, by funext a; match a with | ⟨0, _⟩ => rfl | ⟨1, _⟩ => rfl⟩
  show _ = (rArgs V0).result b j
  unfold rResult Args.result velocity
  pointwise
  by_cases h : j.val < 66
  · rw [dif_pos h, dif_pos h]
    have hj : j.val / 3 < 22 := by omega
    exact congrArg₂ (fun p q : EReal => p - q) (lastX_at V0 hz b ⟨j.val / 3, hj⟩ ⟨j.val % 3, Nat.mod_lt _ (by decide)⟩)
      (v0_at V0 b ⟨j.val / 3, hj⟩ ⟨j.val % 3, Nat.mod_lt _ (by decide)⟩)
  · rw [dif_neg h, dif_neg h]

/-- The run of the reference ends with this result. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v268) = rResult (launchContents m c) :=
  (θ_run defs _ _).mono (fun _ h c => (h c).1) (Value.run (F := Ideal) m ρ)

end Cert.Egnn

end
-- ==== Proof.Lanes.lean ====
module

public import proofs.«01_k».proof.Proof.Spec
public import proofs.«01_k».proof.Proof.Gen.KernelIdeal.Skeleton

@[expose] public section

noncomputable section

/-! How one block of the kernel lays out its numbers, and its operations read at a place of that layout. A block holds
16 groups of 24 rows (22 nodes and 2 rows of padding); its 128 lanes are four copies of 32, one graph each. -/

namespace Cert.Egnn

open Idealize.ShloMosaic Cert.KernelIdeal

/-- Row `i` of group `q`. -/
def nd (q : Fin 16) (i : Fin 24) : Fin 384 := ⟨q.val * 24 + i.val, by omega⟩

/-- The row of the pair of a block row and a partner within its group. -/
def ed (r : Fin 384) (j : Fin 24) : Fin 9216 := ⟨r.val * 24 + j.val, by omega⟩

/-- Lane `f` of copy `c`. -/
def ln (c : Fin 4) (f : Fin 32) : Fin 128 := ⟨c.val * 32 + f.val, by omega⟩

/-- A node's row within its group. -/
def up (i : Fin 22) : Fin 24 := i.castLE (by decide)

/-- A coordinate's lane within its copy. -/
def l3 (k : Fin 3) : Fin 32 := k.castLE (by decide)

/-- A sum over the lanes, copy by copy. -/
theorem sum_lanes (g : Fin 128 → EReal) : ∑ l, g l = ∑ c : Fin 4, ∑ f : Fin 32, g (ln c f) := by
  rw [← Finset.sum_product', ← Equiv.sum_comp (finProdFinEquiv (m := 4) (n := 32))]
  refine Finset.sum_congr rfl fun p _ => congrArg g (Fin.ext ?_)
  show p.2.val + 32 * p.1.val = p.1.val * 32 + p.2.val
  omega

/-- `M` carries the matrix `w` once per copy of the lanes and zero between different copies. -/
def Kron (M : Fin 128 → Fin 128 → EReal) (w : Fin 32 → Fin 32 → EReal) : Prop :=
  ∀ c e c' f, M (ln c e) (ln c' f) = if c = c' then w e f else 0

/-- A sum against such a matrix only meets the lanes of its own copy. -/
theorem Kron.sum {M : Fin 128 → Fin 128 → EReal} {w : Fin 32 → Fin 32 → EReal} (hM : Kron M w) (v : Fin 128 → EReal)
    (c : Fin 4) (f : Fin 32) : ∑ l, v l * M l (ln c f) = ∑ e, v (ln c e) * w e f := by
  rw [sum_lanes, Finset.sum_eq_single c]
  · exact Finset.sum_congr rfl fun e _ => by rw [hM, if_pos rfl]
  · intro b _ hb
    exact Finset.sum_eq_zero fun e _ => by rw [hM, if_neg hb, mul_zero]
  · intro hc; exact absurd (Finset.mem_univ c) hc

/-! ## Reading the re-arrangements -/

section Casts
variable {α : Type} [Facts₀]
open Facts₀

/-- A pair's row, from the pairs set out by row and partner. -/
theorem pairs_of_rows (x : S384x24x128.Idx → α) (h : S384x24x128.ShapeCasts S9216x128) (r : Fin 384) (j : Fin 24) (l : Fin 128) :
    shapeCast S9216x128 x h (ix2 (ed r j) l) = x (ix3 r j l) :=
  shapeCast_apply x h _ _ (by
    rw [Shape.rowMajor_val_three, Shape.rowMajor_val_two]; rfl)

/-- The pairs set out by row and partner, from the pair's row. -/
theorem rows_of_pairs (x : S9216x128.Idx → α) (h : S9216x128.ShapeCasts S384x24x128) (r : Fin 384) (j : Fin 24) (l : Fin 128) :
    shapeCast S384x24x128 x h (ix3 r j l) = x (ix2 (ed r j) l) :=
  shapeCast_apply x h _ _ (by
    rw [Shape.rowMajor_val_three, Shape.rowMajor_val_two]; rfl)

/-- A row's own value, repeated along its pairs. -/
theorem own_row (x : S384x128.Idx → α) (h : S384x128.ShapeCasts S384x1x128) (h' : S384x1x128.Broadcasts S384x24x128)
    (r : Fin 384) (j : Fin 24) (l : Fin 128) :
    broadcastTo S384x24x128 (shapeCast S384x1x128 x h) h' (ix3 r j l) = x (ix2 r l) := by
  refine (broadcastTo_apply _ h' (ix3 r j l) (ix3 r 0 l) ?_).trans (shapeCast_apply x h _ _ ?_)
  · intro a; fin_cases a <;> rfl
  · rw [Shape.rowMajor_val_three, Shape.rowMajor_val_two]; simp

/-- The rows of a group repeated for each row of the group: the pair of `i` and `j` reads row `j`. -/
theorem partner_row (y : S16x1x24x128.Idx → α) (h : S16x1x24x128.Broadcasts S16x24x24x128)
    (h' : S16x24x24x128.ShapeCasts S384x24x128) (q : Fin 16) (i j : Fin 24) (l : Fin 128) :
    shapeCast S384x24x128 (broadcastTo S16x24x24x128 y h) h' (ix3 (nd q i) j l) = y (ix4 q 0 j l) := by
  refine (shapeCast_apply _ h' _ (ix4 q i j l) ?_).trans (broadcastTo_apply y h _ _ ?_)
  · rw [Shape.rowMajor_val_three, Shape.rowMajor_val_four]; simp [nd]
  · intro a; fin_cases a <;> rfl

/-- The rows set out by group and row within it. -/
theorem grouped_row (x : S384x128.Idx → α) (h : S384x128.ShapeCasts S16x1x24x128) (q : Fin 16) (j : Fin 24) (l : Fin 128) :
    shapeCast S16x1x24x128 x h (ix4 q 0 j l) = x (ix2 (nd q j) l) :=
  shapeCast_apply _ h _ _ (by rw [Shape.rowMajor_val_two, Shape.rowMajor_val_four]; simp [nd])

/-- One lane vector repeated for every pair. -/
theorem lane_row (v : S1x1x128.Idx → α) (h : S1x1x128.Broadcasts S384x24x128) (r : Fin 384) (j : Fin 24) (l : Fin 128) :
    broadcastTo S384x24x128 v h (ix3 r j l) = v (ix3 0 0 l) :=
  broadcastTo_apply v h _ _ (by intro a; fin_cases a <;> rfl)

/-- A row under one more unit axis is the same row. -/
theorem lane_cast (v : S1x128.Idx → α) (h : S1x128.ShapeCasts S1x1x128) (l : Fin 128) :
    shapeCast S1x1x128 v h (ix3 0 0 l) = v (ix2 0 l) :=
  shapeCast_apply v h _ _ (by rw [Shape.rowMajor_val_two, Shape.rowMajor_val_three]; simp)

/-- A row under one unit axis less is the same row. -/
theorem lane_cast' (v : S1x1x128.Idx → α) (h : S1x1x128.ShapeCasts S1x128) (l : Fin 128) :
    shapeCast S1x128 v h (ix2 0 l) = v (ix3 0 0 l) :=
  shapeCast_apply v h _ _ (by rw [Shape.rowMajor_val_two, Shape.rowMajor_val_three]; simp)

/-- One number per pair repeated along the lanes. -/
theorem pair_mask (v : S384x24x1.Idx → α) (h : S384x24x1.Broadcasts S384x24x128) (r : Fin 384) (j : Fin 24) (l : Fin 128) :
    broadcastTo S384x24x128 v h (ix3 r j l) = v (ix3 r j 0) :=
  broadcastTo_apply v h _ _ (by intro a; fin_cases a <;> rfl)

/-- The one matrix of a stack of one. -/
theorem one_matrix (v : S1x128x128.Idx → α) (h : S1x128x128.ShapeCasts S128x128) (e l : Fin 128) :
    shapeCast S128x128 v h (ix2 e l) = v (ix3 0 e l) :=
  shapeCast_apply v h _ _ (by rw [Shape.rowMajor_val_two, Shape.rowMajor_val_three]; simp)

end Casts

/-! ## Products and sums -/

section Sums
variable [Facts]

/-- A product of all pairs' rows with a matrix, at an entry. -/
theorem pairs_dot {φ₁ φ₂ : FTy} (a : FVec Ideal S9216x128 φ₁) (b : FVec Ideal S128x128 φ₂) (n : Fin 9216) (l : Fin 128) :
    matmul dot_S9216x128_S128x128_S9216x128_1_0_0_1_n_n none a b (constant S9216x128 .f32 0x00000000#32) (ix2 n l)
      = ∑ k : Fin 128, a (ix2 n k) * b (ix2 k l) := by
  pointwise

/-- A product of all rows with a matrix, at an entry. -/
theorem rows_dot {φ₁ φ₂ : FTy} (a : FVec Ideal S384x128 φ₁) (b : FVec Ideal S128x128 φ₂) (n : Fin 384) (l : Fin 128) :
    matmul dot_S384x128_S128x128_S384x128_1_0_0_1_n_n none a b (constant S384x128 .f32 0x00000000#32) (ix2 n l)
      = ∑ k : Fin 128, a (ix2 n k) * b (ix2 k l) := by
  pointwise

/-- The embedding's product, at an entry. -/
theorem emb_dot {φ₁ φ₂ : FTy} (a : FVec Ideal S24x24 φ₁) (b : FVec Ideal S24x128 φ₂) (n : Fin 24) (l : Fin 128) :
    matmul dot_S24x24_S24x128_S24x128_1_0_0_1_n_n none a b (constant S24x128 .f32 0x00000000#32) (ix2 n l)
      = ∑ k : Fin 24, a (ix2 n k) * b (ix2 k l) := by
  pointwise

/-- The sum over a row's partners. -/
theorem partner_sum (x : FVec Ideal S384x24x128 .f32) (h : S384x24x128.Reduces [1] S384x128) (hφ : FKind.Formats .f32)
    (hacc : 0x00000000#32 = FKind.add.neutral .f32 hφ) (r : Fin 384) (l : Fin 128) :
    multiReduction .add [1] S384x128 x 0x00000000#32 h hφ hacc (ix2 r l) = ∑ j : Fin 24, x (ix3 r j l) := by
  pointwise

end Sums

end Cert.Egnn

end
-- ==== Proof.Stages.lean ====
module

public import proofs.«01_k».proof.Proof.Lanes

@[expose] public section

noncomputable section

/-! The stages of one layer as the kernel computes them on a block, each read at one place, and the kernel's own values
as these stages. -/

namespace Cert.Egnn

open Idealize.ShloMosaic Cert.KernelIdeal Cert.KernelIdeal.Gen

/-- The pointwise operations, read at an index. -/
theorem addf_at {s : Shape} {φ : FTy} (a b : FVec Ideal s φ) (i : s.Idx) : addf a b i = a i + b i := rfl
/-- A difference at an index. -/
theorem subf_at {s : Shape} {φ : FTy} (a b : FVec Ideal s φ) (i : s.Idx) : subf a b i = a i - b i := rfl
/-- A product at an index. -/
theorem mulf_at {s : Shape} {φ : FTy} (a b : FVec Ideal s φ) (i : s.Idx) : mulf a b i = a i * b i := rfl
/-- A quotient at an index. -/
theorem divf_at {s : Shape} {φ : FTy} (a b : FVec Ideal s φ) (i : s.Idx) : divf a b i = Ideal.div (a i) (b i) := rfl
/-- A root at an index. -/
theorem sqrt_at {s : Shape} {φ : FTy} (a : FVec Ideal s φ) (i : s.Idx) : sqrt a i = Ideal.sqrt (a i) := rfl
/-- A hyperbolic tangent at an index. -/
theorem tanh_at {s : Shape} {φ : FTy} (a : FVec Ideal s φ) (i : s.Idx) : tanh a i = Ideal.tanh (a i) := rfl
/-- A logistic value at an index. -/
theorem logistic_at {s : Shape} {φ : FTy} (a : FVec Ideal s φ) (i : s.Idx) : logistic a i = Ideal.logistic (a i) := rfl
/-- Narrowing changes nothing over the extended reals. -/
theorem truncf_at {s : Shape} {φ ψ : FTy} (a : FVec Ideal s φ) (h : ψ.bits < φ.bits) (i : s.Idx) : truncf ψ a h i = a i := rfl
/-- Nor does widening. -/
theorem extf_at {s : Shape} {φ ψ : FTy} (a : FVec Ideal s φ) (h : φ.bits < ψ.bits) (i : s.Idx) : extf ψ a h i = a i := rfl
/-- The constant 1 at an index. -/
theorem one_at {s : Shape} (i : s.Idx) : broadcast s (Scalar.ofBits (F := Ideal) .f32 0x3F800000#32) i = 1 :=
  Ideal.ofBits_one_f32
/-- The small constant at an index. -/
theorem eps_at {s : Shape} (i : s.Idx) : broadcast s (Scalar.ofBits (F := Ideal) .f32 0x322BCC77#32) i = eps := rfl

/-- A block's matrix product against one matrix of a stack of one. -/
def rowsMul (a : FVec Ideal S384x128 .bf16) (w : FVec Ideal S1x128x128 .bf16) : FVec Ideal S384x128 .f32 :=
  matmul dot_S384x128_S128x128_S384x128_1_0_0_1_n_n none a (shapeCast S128x128 w shapeCasts_S1x128x128_S128x128)
    (constant S384x128 .f32 0x00000000#32)

/-- The same for the pairs. -/
def pairsMul (a : FVec Ideal S9216x128 .bf16) (w : FVec Ideal S1x128x128 .bf16) : FVec Ideal S9216x128 .f32 :=
  matmul dot_S9216x128_S128x128_S9216x128_1_0_0_1_n_n none a (shapeCast S128x128 w shapeCasts_S1x128x128_S128x128)
    (constant S9216x128 .f32 0x00000000#32)

/-- On rows, a block-diagonal matrix acts on each graph's lanes alone. -/
theorem rowsMul_at (a : FVec Ideal S384x128 .bf16) (w : FVec Ideal S1x128x128 .bf16) (M : Fin 32 → Fin 32 → EReal)
    (hw : Kron (fun a b => w (ix3 0 a b)) M) (n : Fin 384) (c : Fin 4) (f : Fin 32) :
    rowsMul a w (ix2 n (ln c f)) = vecMat (fun e => a (ix2 n (ln c e))) M f := by
  unfold rowsMul
  rw [rows_dot]
  simp only [one_matrix]
  exact hw.sum (fun l => a (ix2 n l)) c f

/-- On pairs, a block-diagonal matrix acts on each graph's lanes alone. -/
theorem pairsMul_at (a : FVec Ideal S9216x128 .bf16) (w : FVec Ideal S1x128x128 .bf16) (M : Fin 32 → Fin 32 → EReal)
    (hw : Kron (fun a b => w (ix3 0 a b)) M) (n : Fin 9216) (c : Fin 4) (f : Fin 32) :
    pairsMul a w (ix2 n (ln c f)) = vecMat (fun e => a (ix2 n (ln c e))) M f := by
  unfold pairsMul
  rw [pairs_dot]
  simp only [one_matrix]
  exact hw.sum (fun l => a (ix2 n l)) c f

/-- The sum over each row's partners. -/
def partnerSum (x : FVec Ideal S384x24x128 .f32) : FVec Ideal S384x128 .f32 :=
  multiReduction .add [1] S384x128 x 0x00000000#32 reduces_S384x24x128_S384x128 (.inl rfl) rfl

/-- Read at an entry it is the sum over the 24 partners. -/
theorem partnerSum_at (x : FVec Ideal S384x24x128 .f32) (r : Fin 384) (l : Fin 128) :
    partnerSum x (ix2 r l) = ∑ j : Fin 24, x (ix3 r j l) := partner_sum x _ _ _ r l

/-- `silu` of a vector. -/
def siluV {s : Shape} (a : FVec Ideal s .f32) : FVec Ideal s .f32 := mulf a (logistic a)

/-- Read at an index it is `silu`. -/
theorem siluV_at {s : Shape} (a : FVec Ideal s .f32) (i : s.Idx) : siluV a i = silu (a i) := rfl

/-! ## The edge network's first activation -/

/-- Own row, partner row and squared distance, added and activated. -/
def firstAct (own : FVec Ideal S384x128 .f32) (par : FVec Ideal S16x1x24x128 .f32) (rd : FVec Ideal S384x24x128 .f32)
    (e1c : FVec Ideal S1x1x128 .bf16) : FVec Ideal S9216x128 .bf16 :=
  truncf .bf16 (shapeCast S9216x128 (siluV (addf (addf
    (broadcastTo S384x24x128 (shapeCast S384x1x128 own shapeCasts_S384x128_S384x1x128) broadcasts_S384x1x128_S384x24x128)
    (shapeCast S384x24x128 (broadcastTo S16x24x24x128 (shapeCast S16x1x24x128 par shapeCasts_S16x1x24x128_S16x1x24x128)
      broadcasts_S16x1x24x128_S16x24x24x128) shapeCasts_S16x24x24x128_S384x24x128))
    (mulf (extf .f32 (truncf .bf16 rd bitsLt_bf16_f32) bitsLt_bf16_f32)
      (broadcastTo S384x24x128 (shapeCast S1x1x128 (extf .f32 (shapeCast S1x128 e1c shapeCasts_S1x1x128_S1x128) bitsLt_bf16_f32)
        shapeCasts_S1x128_S1x1x128) broadcasts_S1x1x128_S384x24x128)))) shapeCasts_S384x24x128_S9216x128) bitsLt_bf16_f32

/-- The first activation, read at a pair. -/
theorem firstAct_at (own : FVec Ideal S384x128 .f32) (par : FVec Ideal S16x1x24x128 .f32) (rd : FVec Ideal S384x24x128 .f32)
    (e1c : FVec Ideal S1x1x128 .bf16) (q : Fin 16) (i j : Fin 24) (l : Fin 128) :
    firstAct own par rd e1c (ix2 (ed (nd q i) j) l)
      = silu (own (ix2 (nd q i) l) + par (ix4 q 0 j l) + rd (ix3 (nd q i) j l) * e1c (ix3 0 0 l)) := by
  unfold firstAct
  simp only [truncf_at, pairs_of_rows, siluV_at, addf_at, mulf_at, own_row, partner_row, shapeCast_id, extf_at, lane_row,
    lane_cast, lane_cast']

/-! ## The gated message -/

/-- The second edge matrix, its activation, the attention gate and the mask. -/
def gate (mask : FVec Ideal S384x24x1 .f32) (a : FVec Ideal S9216x128 .bf16) (e2 att : FVec Ideal S1x128x128 .bf16) :
    FVec Ideal S384x24x128 .f32 :=
  mulf (shapeCast S384x24x128 (siluV (pairsMul a e2)) shapeCasts_S9216x128_S384x24x128)
    (mulf (shapeCast S384x24x128 (logistic (pairsMul (truncf .bf16 (siluV (pairsMul a e2)) bitsLt_bf16_f32) att))
      shapeCasts_S9216x128_S384x24x128) (broadcastTo S384x24x128 mask broadcasts_S384x24x1_S384x24x128))

/-- The gated message, read at a pair: the edge's features times the logistic value times the mask. -/
theorem gate_at (W : Weights) (mask : FVec Ideal S384x24x1 .f32) (a : FVec Ideal S9216x128 .bf16)
    (e2 att : FVec Ideal S1x128x128 .bf16) (he2 : Kron (fun a b => e2 (ix3 0 a b)) W.E2)
    (hatt : Kron (fun a b => att (ix3 0 a b)) (fun e _ => W.att e)) (r : Fin 384) (j : Fin 24) (c : Fin 4)
    (p : Fin 32 → EReal) (hp : ∀ e, a (ix2 (ed r j) (ln c e)) = silu (p e)) (f : Fin 32) :
    gate mask a e2 att (ix3 r j (ln c f))
      = edgeOut W p f * (Ideal.logistic (∑ e, edgeOut W p e * W.att e) * mask (ix3 r j 0)) := by
  unfold gate
  simp only [mulf_at, rows_of_pairs, siluV_at, logistic_at, pair_mask, pairsMul_at _ e2 W.E2 he2, hp,
    pairsMul_at _ att _ hatt, truncf_at]
  rfl

/-! ## The coordinate network -/

/-- The coordinate network's first matrix and activation. -/
def coordAct (m : FVec Ideal S384x24x128 .f32) (c1 : FVec Ideal S1x128x128 .bf16) : FVec Ideal S9216x128 .bf16 :=
  truncf .bf16 (siluV (pairsMul (truncf .bf16 (shapeCast S9216x128 m shapeCasts_S384x24x128_S9216x128) bitsLt_bf16_f32) c1))
    bitsLt_bf16_f32

/-- The coordinate map's activation, read at a pair. -/
theorem coordAct_at (W : Weights) (m : FVec Ideal S384x24x128 .f32) (c1 : FVec Ideal S1x128x128 .bf16)
    (hc1 : Kron (fun a b => c1 (ix3 0 a b)) W.C1) (r : Fin 384) (j : Fin 24) (c : Fin 4) (f : Fin 32) :
    coordAct m c1 (ix2 (ed r j) (ln c f)) = silu (vecMat (fun e => m (ix3 r j (ln c e))) W.C1 f) := by
  unfold coordAct
  simp only [truncf_at, siluV_at, pairsMul_at _ c1 W.C1 hc1, pairs_of_rows]

/-- The block's rows moved by the weighted directions. -/
def moved (X : FVec Ideal S384x128 .f32) (D : FVec Ideal S384x24x128 .f32) (a : FVec Ideal S9216x128 .bf16)
    (c2 : FVec Ideal S1x128x128 .bf16) : FVec Ideal S384x128 .f32 :=
  addf X (partnerSum (mulf D (shapeCast S384x24x128 (tanh (pairsMul a c2)) shapeCasts_S9216x128_S384x24x128)))

/-- The moved positions, read at a row. -/
theorem moved_at (W : Weights) (X : FVec Ideal S384x128 .f32) (D : FVec Ideal S384x24x128 .f32) (a : FVec Ideal S9216x128 .bf16)
    (c2 : FVec Ideal S1x128x128 .bf16) (hc2 : Kron (fun a b => c2 (ix3 0 a b)) (fun e _ => W.c2 e)) (r : Fin 384) (c : Fin 4)
    (f : Fin 32) :
    moved X D a c2 (ix2 r (ln c f))
      = X (ix2 r (ln c f)) + ∑ j : Fin 24, D (ix3 r j (ln c f)) * Ideal.tanh (∑ e, a (ix2 (ed r j) (ln c e)) * W.c2 e) := by
  unfold moved
  rw [addf_at, partnerSum_at]
  simp only [mulf_at, rows_of_pairs, tanh_at, pairsMul_at _ c2 _ hc2]
  rfl

/-! ## Differences and distances -/

/-- The difference of two rows, read at a pair. -/
theorem diff_at (X : FVec Ideal S384x128 .f32) (q : Fin 16) (i j : Fin 24) (l : Fin 128) :
    k0_pay16 X (ix3 (nd q i) j l) = X (ix2 (nd q i) l) - X (ix2 (nd q j) l) := by
  unfold k0_pay16
  simp only [subf_at, own_row, partner_row, shapeCast_id, grouped_row]

/-- The lane sums of the squared differences, where the three first lanes of a copy hold real numbers. -/
theorem rad_at (R : FVec Ideal S128x128 .bf16) (hR : Kron (fun a b => R (ix2 a b)) (fun e _ => if e.val < 3 then 1 else 0))
    (X : FVec Ideal S384x128 .f32) (x : Fin 22 → Fin 3 → EReal) (hx : ∀ i k, ∃ r : ℝ, x i k = r) (q : Fin 16) (c : Fin 4)
    (hX : ∀ (i : Fin 22) (k : Fin 3), X (ix2 (nd q (up i)) (ln c (l3 k))) = x i k)
    (i j : Fin 22) (f : Fin 32) :
    k0_pay17 R X (ix3 (nd q (up i)) (up j) (ln c f)) = rad x i j := by
  have three : ∀ g : Fin 32 → EReal, ∑ e, g e * (if e.val < 3 then 1 else 0) = ∑ k : Fin 3, g (l3 k) := by
    intro g
    rw [show (∑ e, g e * (if e.val < 3 then 1 else 0)) = ∑ e : Fin (3 + 29), g e * (if e.val < 3 then 1 else 0) from rfl,
      Fin.sum_univ_add, Finset.sum_eq_zero (s := (Finset.univ : Finset (Fin 29))), add_zero]
    · exact Finset.sum_congr rfl fun k _ => by rw [if_pos (by simp), mul_one]; rfl
    · intro k _; rw [if_neg (by simp), mul_zero]
  unfold k0_pay17
  simp only [rows_of_pairs, addf_at, pairs_dot, truncf_at, subf_at, extf_at, pairs_of_rows, mulf_at, diff_at]
  rw [hR.sum (fun l => _), hR.sum (fun l => _), three, three]
  simp only [hX]
  have h0 : ∀ k, (x i k - x j k) * (x i k - x j k) - (x i k - x j k) * (x i k - x j k) = 0 := by
    intro k
    obtain ⟨d, hd⟩ := dif_real x hx i j k
    unfold dif at hd
    rw [hd, ← EReal.coe_mul, ← EReal.coe_sub, sub_self]; rfl
  simp only [h0, Finset.sum_const_zero, add_zero]
  rfl

/-- The direction, read at a pair, where the positions are real. -/
theorem dirn_at (R : FVec Ideal S128x128 .bf16) (hR : Kron (fun a b => R (ix2 a b)) (fun e _ => if e.val < 3 then 1 else 0))
    (X : FVec Ideal S384x128 .f32) (x : Fin 22 → Fin 3 → EReal) (hx : ∀ i k, ∃ r : ℝ, x i k = r) (q : Fin 16) (c : Fin 4)
    (hX : ∀ (i : Fin 22) (k : Fin 3), X (ix2 (nd q (up i)) (ln c (l3 k))) = x i k)
    (i j : Fin 22) (k : Fin 3) :
    k0_pay18 R X (ix3 (nd q (up i)) (up j) (ln c (l3 k))) = dirn x i j k := by
  unfold k0_pay18
  simp only [divf_at, addf_at, sqrt_at, eps_at, one_at, diff_at, rad_at R hR X x hx q c hX, hX]
  rfl

/-! ## The kernel's values are these stages -/

/-- The kernel's squared distances are the stages above. -/
theorem pay9_eq (R : FVec Ideal S128x128 .bf16) (v0 : FVec Ideal S384x128 .f32) :
    k0_pay9 R (k0_pay6 v0) (k0_pay7 v0) = k0_pay17 R (k0_pay2 v0) := rfl

/-- The kernel's directions are the stages above. -/
theorem pay10_eq (R : FVec Ideal S128x128 .bf16) (v0 : FVec Ideal S384x128 .f32) :
    k0_pay10 R (k0_pay6 v0) (k0_pay7 v0) = k0_pay18 R (k0_pay2 v0) := rfl

/-- The kernel's first activation are the stages above. -/
theorem pay11_eq (v10 : FVec Ideal S384x128 .f32) (R : FVec Ideal S128x128 .bf16) (v0 : FVec Ideal S384x128 .f32)
    (e1a e1b : FVec Ideal S1x128x128 .bf16) (e1c : FVec Ideal S1x1x128 .bf16) :
    k0_pay11 v10 R (k0_pay6 v0) (k0_pay7 v0) e1a e1b e1c
      = firstAct (rowsMul (truncf .bf16 v10 bitsLt_bf16_f32) e1a)
          (shapeCast S16x1x24x128 (rowsMul (truncf .bf16 v10 bitsLt_bf16_f32) e1b) shapeCasts_S384x128_S16x1x24x128)
          (k0_pay17 R (k0_pay2 v0)) e1c := rfl

/-- The kernel's gated messages are the stages above. -/
theorem pay12_eq (mask : FVec Ideal S384x24x1 .f32) (a : FVec Ideal S9216x128 .bf16) (e2 att : FVec Ideal S1x128x128 .bf16) :
    k0_pay12 mask a e2 att = gate mask a e2 att := rfl

/-- The kernel's moved positions are the stages above. -/
theorem pay13_eq (X : FVec Ideal S384x128 .f32) (mask : FVec Ideal S384x24x1 .f32) (D : FVec Ideal S384x24x128 .f32)
    (a : FVec Ideal S9216x128 .bf16) (e2 att c1 c2 : FVec Ideal S1x128x128 .bf16) :
    k0_pay13 X mask D a e2 att c1 c2 = moved X D (coordAct (gate mask a e2 att) c1) c2 := rfl

/-- The coordinate activation of the second layer is the stages above. -/
theorem pay22_eq (mask : FVec Ideal S384x24x1 .f32) (rd : FVec Ideal S384x24x128 .f32) (own : FVec Ideal S384x128 .f32)
    (par : FVec Ideal S16x1x24x128 .f32) (e1c : FVec Ideal S1x1x128 .bf16) (e2 att c1 : FVec Ideal S1x128x128 .bf16) :
    k0_pay22 mask rd own par e1c e2 att c1 = coordAct (gate mask (firstAct own par rd e1c) e2 att) c1 := rfl

/-- The kernel's velocities are the stages above. -/
theorem pay1_eq (X0 X : FVec Ideal S384x128 .f32) (D : FVec Ideal S384x24x128 .f32) (a : FVec Ideal S9216x128 .bf16)
    (c2 : FVec Ideal S1x128x128 .bf16) : k0_pay1 X0 X D a c2 = subf (moved X D a c2) X0 := rfl

end Cert.Egnn

end
-- ==== Proof.Layer.lean ====
module

public import proofs.«01_k».proof.Proof.Stages

@[expose] public section

noncomputable section

/-! One layer of the kernel on one block: where the block holds a graph's positions and features, the layer's values
are the graph's. -/

namespace Cert.Egnn

open Idealize.ShloMosaic Cert.KernelIdeal Cert.KernelIdeal.Gen

/-- The block matrices one layer reads. -/
structure Mats where
  e1a : FVec Ideal S1x128x128 .bf16
  e1b : FVec Ideal S1x128x128 .bf16
  e1c : FVec Ideal S1x1x128 .bf16
  e2 : FVec Ideal S1x128x128 .bf16
  att : FVec Ideal S1x128x128 .bf16
  c1 : FVec Ideal S1x128x128 .bf16
  c2 : FVec Ideal S1x128x128 .bf16
  n1a : FVec Ideal S1x128x128 .bf16
  n1b : FVec Ideal S1x128x128 .bf16
  n2 : FVec Ideal S1x128x128 .bf16

/-- They hold the layer's weights, once per copy of the lanes. -/
structure Mats.Carry (K : Mats) (W : Weights) : Prop where
  e1a : Kron (fun a b => K.e1a (ix3 0 a b)) W.A
  e1b : Kron (fun a b => K.e1b (ix3 0 a b)) W.B
  e1c : ∀ c f, K.e1c (ix3 0 0 (ln c f)) = W.C f
  e2 : Kron (fun a b => K.e2 (ix3 0 a b)) W.E2
  att : Kron (fun a b => K.att (ix3 0 a b)) (fun e _ => W.att e)
  c1 : Kron (fun a b => K.c1 (ix3 0 a b)) W.C1
  c2 : Kron (fun a b => K.c2 (ix3 0 a b)) (fun e _ => W.c2 e)
  n1a : Kron (fun a b => K.n1a (ix3 0 a b)) W.N1a
  n1b : Kron (fun a b => K.n1b (ix3 0 a b)) W.N1b
  n2 : Kron (fun a b => K.n2 (ix3 0 a b)) W.N2

/-- The mask is one at two distinct nodes and zero elsewhere. -/
def Masks (mask : FVec Ideal S384x24x1 .f32) : Prop :=
  ∀ (q : Fin 16) (i j : Fin 24), mask (ix3 (nd q i) j 0) = if j.val < 22 ∧ j.val ≠ i.val then 1 else 0

/-- The matrix that sums a copy's three first lanes into each of its lanes. -/
def Sums3 (R : FVec Ideal S128x128 .bf16) : Prop := Kron (fun a b => R (ix2 a b)) (fun e _ => if e.val < 3 then 1 else 0)

/-- Copy `c` of group `q` holds the positions `x` and the features `h`. -/
def HoldsX (X : FVec Ideal S384x128 .f32) (q : Fin 16) (c : Fin 4) (x : Fin 22 → Fin 3 → EReal) : Prop :=
  ∀ i k, X (ix2 (nd q (up i)) (ln c (l3 k))) = x i k
/-- Rows of group `q` hold the features of graph `c` of its four. -/
def HoldsH {φ : FTy} (H : FVec Ideal S384x128 φ) (q : Fin 16) (c : Fin 4) (h : Fin 22 → Fin 32 → EReal) : Prop :=
  ∀ i f, H (ix2 (nd q (up i)) (ln c f)) = h i f

/-- A sum over the 24 partners whose terms vanish at the padding and at the node itself is the sum over the other
nodes. -/
theorem sum_partners (F : Fin 24 → EReal) (G : Fin 22 → EReal) (i : Fin 22) (h1 : ∀ j : Fin 22, j ≠ i → F (up j) = G j)
    (h0 : ∀ j : Fin 24, ¬(j.val < 22 ∧ j.val ≠ i.val) → F j = 0) :
    ∑ j, F j = ∑ j ∈ Finset.univ.filter (fun j : Fin 22 => j ≠ i), G j := by
  rw [show (∑ j, F j) = ∑ j : Fin (22 + 2), F j from rfl, Fin.sum_univ_add,
    Finset.sum_eq_zero (s := (Finset.univ : Finset (Fin 2))), add_zero, Finset.sum_filter]
  · refine Finset.sum_congr rfl fun j _ => ?_
    by_cases hj : j = i
    · rw [if_neg (not_not.mpr hj)]
      exact h0 _ (by subst hj; simp)
    · rw [if_pos hj]; exact h1 j hj
  · intro j _; exact h0 _ (by simp)

variable (W : Weights) (K : Mats) (hK : K.Carry W) (mask : FVec Ideal S384x24x1 .f32) (hm : Masks mask)
  (R : FVec Ideal S128x128 .bf16) (hR : Sums3 R) (X : FVec Ideal S384x128 .f32) (H : FVec Ideal S384x128 .bf16)

/-- The layer's messages on the block. -/
def messages : FVec Ideal S384x24x128 .f32 :=
  gate mask (firstAct (rowsMul H K.e1a)
    (shapeCast S16x1x24x128 (rowsMul H K.e1b) shapeCasts_S384x128_S16x1x24x128) (k0_pay17 R X) K.e1c) K.e2 K.att

variable {W K mask R X H} {q : Fin 16} {c : Fin 4} {x : Fin 22 → Fin 3 → EReal} {h : Fin 22 → Fin 32 → EReal}

include hK hm in
/-- At the padding and at the node itself a message is zero. -/
theorem messages_off (i : Fin 22) (j : Fin 24) (hj : ¬(j.val < 22 ∧ j.val ≠ i.val)) (f : Fin 32) :
    messages K mask R X H (ix3 (nd q (up i)) j (ln c f)) = 0 := by
  unfold messages
  rw [gate_at W mask _ _ _ hK.e2 hK.att _ _ c _ (fun e => firstAct_at _ _ _ _ q (up i) j (ln c e)), hm,
    if_neg (show ¬(j.val < 22 ∧ j.val ≠ (up i).val) from hj), mul_zero, mul_zero]

include hK hm hR in
/-- At two distinct nodes it is the graph's message. -/
theorem messages_on (hx : ∀ i k, ∃ r : ℝ, x i k = r) (hX : HoldsX X q c x) (hH : HoldsH H q c h) (i j : Fin 22) (hj : j ≠ i)
    (f : Fin 32) : messages K mask R X H (ix3 (nd q (up i)) (up j) (ln c f)) = msg W x h i j f := by
  unfold messages
  have hp : ∀ e, firstAct (rowsMul H K.e1a)
      (shapeCast S16x1x24x128 (rowsMul H K.e1b) shapeCasts_S384x128_S16x1x24x128) (k0_pay17 R X) K.e1c
      (ix2 (ed (nd q (up i)) (up j)) (ln c e)) = silu (pre W x h i j e) := by
    intro e
    rw [firstAct_at, grouped_row, rowsMul_at _ _ _ hK.e1a, rowsMul_at _ _ _ hK.e1b, rad_at R hR X x hx q c hX, hK.e1c]
    simp only [hH i, hH j]
    rfl
  rw [gate_at W mask _ _ _ hK.e2 hK.att _ _ c _ hp, hm, if_pos, mul_one]
  · rfl
  · exact ⟨j.isLt, fun e => hj (Fin.ext e)⟩

include hK hm hR in
/-- The positions after the layer. -/
theorem moved_holds (hx : ∀ i k, ∃ r : ℝ, x i k = r) (hX : HoldsX X q c x) (hH : HoldsH H q c h) :
    HoldsX (moved X (k0_pay18 R X) (coordAct (messages K mask R X H) K.c1) K.c2) q c (nextX W x h) := by
  intro i k
  rw [moved_at W _ _ _ _ hK.c2, hX]
  simp only [coordAct_at W _ _ hK.c1]
  unfold nextX
  refine congrArg (x i k + ·) (sum_partners _ _ i (fun j hj => ?_) fun j hj => ?_)
  · simp only [messages_on hK hm hR hx hX hH i j hj]
    rw [dirn_at R hR X x hx q c hX]
    rfl
  · simp only [messages_off hK hm i j hj]
    simp only [vecMat, zero_mul, Finset.sum_const_zero, silu_zero, tanh_zero, mul_zero]

/-- The features after the layer, on the block. -/
def newRows (K : Mats) (H0 : FVec Ideal S384x128 .f32) (own : FVec Ideal S384x128 .f32) (M : FVec Ideal S384x24x128 .f32) :
    FVec Ideal S384x128 .f32 :=
  addf H0 (rowsMul (truncf .bf16 (siluV (addf own (rowsMul (truncf .bf16 (partnerSum M) bitsLt_bf16_f32) K.n1b))) bitsLt_bf16_f32) K.n2)

include hK hm hR in
/-- The features after the layer are the network's. -/
theorem newRows_holds (H0 : FVec Ideal S384x128 .f32) (hx : ∀ i k, ∃ r : ℝ, x i k = r) (hX : HoldsX X q c x)
    (hH0 : HoldsH H0 q c h) :
    HoldsH (newRows K H0 (rowsMul (truncf .bf16 H0 bitsLt_bf16_f32) K.n1a)
      (messages K mask R X (truncf .bf16 H0 bitsLt_bf16_f32))) q c (nextH W x h) := by
  intro i f
  have hH : HoldsH (φ := .bf16) (truncf .bf16 H0 bitsLt_bf16_f32) q c h := hH0
  have hagg : ∀ e, ∑ j, messages K mask R X (truncf .bf16 H0 bitsLt_bf16_f32) (ix3 (nd q (up i)) j (ln c e)) = agg W x h i e :=
    fun e => sum_partners _ _ i (fun j hj => messages_on hK hm hR hx hX hH i j hj e) fun j hj => messages_off hK hm i j hj e
  unfold newRows
  rw [addf_at, hH0, rowsMul_at _ _ _ hK.n2]
  simp only [truncf_at, siluV_at, addf_at, rowsMul_at _ _ _ hK.n1a, rowsMul_at _ _ _ hK.n1b, partnerSum_at, hagg, hH0 i]
  rfl

/-! ## The mask of the kernel -/

/-- The mask's word: `j < 22` and `j` not the row's node. -/
theorem mask_word (q : Fin 16) (i j : Fin 24) : k0_pay4 (F := Ideal) (ix3 (nd q i) j 0) =
    FloatOps.sitofp .f32 (if j.val < 22 ∧ j.val ≠ i.val then 1#32 else 0#32) := by
  pointwise [k0_pay4]
  refine congrArg (FloatOps.sitofp (F := Ideal) .f32) ?_
  revert q i j
  decide +kernel

/-- The kernel's mask is the one above. -/
theorem pay4_masks : Masks (k0_pay4 (F := Ideal)) := by
  intro q i j
  rw [mask_word]
  split
  · exact congrArg (fun z : ℤ => ((z : ℝ) : EReal)) (show (1#32).toInt = 1 from rfl) |>.trans (by norm_num)
  · exact congrArg (fun z : ℤ => ((z : ℝ) : EReal)) (show (0#32).toInt = 0 from rfl) |>.trans (by norm_num)

end Cert.Egnn

end
-- ==== Proof.Block.lean ====
module

public import proofs.«01_k».proof.Proof.Layer
public import proofs.«01_k».proof.Proof.Gen.KernelIdeal.Frame
public import Idealize.ShloMosaic.Lib.Pipeline.ValueKit.Tiles

@[expose] public section

noncomputable section

/-! The kernel's block: what one grid step stores is the velocity of each graph its input block holds. -/

namespace Cert.Egnn

open Idealize.ShloMosaic Cert.KernelIdeal Cert.KernelIdeal.Gen

/-- The arrays of block matrices as the windows hold them: two layers each. -/
structure Stacks where
  e1a : FVec Ideal S2x128x128 .bf16
  e1b : FVec Ideal S2x128x128 .bf16
  e1c : FVec Ideal S2x1x128 .bf16
  e2 : FVec Ideal S2x128x128 .bf16
  att : FVec Ideal S2x128x128 .bf16
  c1 : FVec Ideal S2x128x128 .bf16
  c2 : FVec Ideal S2x128x128 .bf16
  n1a : FVec Ideal S2x128x128 .bf16
  n1b : FVec Ideal S2x128x128 .bf16
  n2 : FVec Ideal S2x128x128 .bf16

/-- Layer `g` of the arrays holds the weights `W`. -/
structure Stacks.Carry (S : Stacks) (g : Fin 2) (W : Weights) : Prop where
  e1a : Kron (fun a b => S.e1a (ix3 g a b)) W.A
  e1b : Kron (fun a b => S.e1b (ix3 g a b)) W.B
  e1c : ∀ c f, S.e1c (ix3 g 0 (ln c f)) = W.C f
  e2 : Kron (fun a b => S.e2 (ix3 g a b)) W.E2
  att : Kron (fun a b => S.att (ix3 g a b)) (fun e _ => W.att e)
  c1 : Kron (fun a b => S.c1 (ix3 g a b)) W.C1
  c2 : Kron (fun a b => S.c2 (ix3 g a b)) (fun e _ => W.c2 e)
  n1a : Kron (fun a b => S.n1a (ix3 g a b)) W.N1a
  n1b : Kron (fun a b => S.n1b (ix3 g a b)) W.N1b
  n2 : Kron (fun a b => S.n2 (ix3 g a b)) W.N2

/-- The kernel's loads of one layer's matrix or row. -/
def fstMat (A : FVec Ideal S2x128x128 .bf16) : FVec Ideal S1x128x128 .bf16 := View.ld (Val := Elt Ideal) (e' := .bf16) A r0_4
/-- The second layer's matrix of a stack. -/
def sndMat (A : FVec Ideal S2x128x128 .bf16) : FVec Ideal S1x128x128 .bf16 := View.ld (Val := Elt Ideal) (e' := .bf16) A r0_6
/-- The first layer's row of a stack. -/
def fstRow (A : FVec Ideal S2x1x128 .bf16) : FVec Ideal S1x1x128 .bf16 := View.ld (Val := Elt Ideal) (e' := .bf16) A r0_5
/-- The second layer's row of a stack. -/
def sndRow (A : FVec Ideal S2x1x128 .bf16) : FVec Ideal S1x1x128 .bf16 := View.ld (Val := Elt Ideal) (e' := .bf16) A r0_7

/-- An entry of the first matrix is the stack's entry at 0. -/
theorem fstMat_at (A : FVec Ideal S2x128x128 .bf16) (a b : Fin 128) : fstMat A (ix3 0 a b) = A (ix3 0 a b) :=
  View.ld_unit_apply_of (Val := Elt Ideal) (e := .bf16) A _ _ _ _ _ (by intro x; fin_cases x <;> simp [ix3])

/-- An entry of the second matrix is the stack's entry at 1. -/
theorem sndMat_at (A : FVec Ideal S2x128x128 .bf16) (a b : Fin 128) : sndMat A (ix3 0 a b) = A (ix3 1 a b) :=
  View.ld_unit_apply_of (Val := Elt Ideal) (e := .bf16) A _ _ _ _ _ (by intro x; fin_cases x <;> simp [ix3])

/-- An entry of the first row is the stack's entry at 0. -/
theorem fstRow_at (A : FVec Ideal S2x1x128 .bf16) (b : Fin 128) : fstRow A (ix3 0 0 b) = A (ix3 0 0 b) :=
  View.ld_unit_apply_of (Val := Elt Ideal) (e := .bf16) A _ _ _ _ _ (by intro x; fin_cases x <;> simp [ix3])

/-- An entry of the second row is the stack's entry at 1. -/
theorem sndRow_at (A : FVec Ideal S2x1x128 .bf16) (b : Fin 128) : sndRow A (ix3 0 0 b) = A (ix3 1 0 b) :=
  View.ld_unit_apply_of (Val := Elt Ideal) (e := .bf16) A _ _ _ _ _ (by intro x; fin_cases x <;> simp [ix3])

/-- The first layer's matrices, as the kernel loads them. -/
def Stacks.fst (S : Stacks) : Mats :=
  ⟨fstMat S.e1a, fstMat S.e1b, fstRow S.e1c, fstMat S.e2, fstMat S.att, fstMat S.c1, fstMat S.c2, fstMat S.n1a, fstMat S.n1b,
    fstMat S.n2⟩

/-- The second layer's. -/
def Stacks.snd (S : Stacks) : Mats :=
  ⟨sndMat S.e1a, sndMat S.e1b, sndRow S.e1c, sndMat S.e2, sndMat S.att, sndMat S.c1, sndMat S.c2, sndMat S.n1a, sndMat S.n1b,
    sndMat S.n2⟩

/-- Where the stacks carry weights at 0, their first matrices do. -/
theorem Stacks.Carry.fst {S : Stacks} {W : Weights} (h : S.Carry 0 W) : S.fst.Carry W := by
  obtain ⟨h1, h2, h3, h4, h5, h6, h7, h8, h9, h10⟩ := h
  constructor <;> simpa only [Stacks.fst, fstMat_at, fstRow_at]

/-- Where the stacks carry weights at 1, their second matrices do. -/
theorem Stacks.Carry.snd {S : Stacks} {W : Weights} (h : S.Carry 1 W) : S.snd.Carry W := by
  obtain ⟨h1, h2, h3, h4, h5, h6, h7, h8, h9, h10⟩ := h
  constructor <;> simpa only [Stacks.snd, sndMat_at, sndRow_at]

/-- The block's messages, positions and features along the two layers, over the step's input blocks. -/
def msgs0 (S : Stacks) (R : FVec Ideal S128x128 .bf16) (X0 : FVec Ideal S384x128 .f32) (H0 : FVec Ideal S384x128 .f32) :
    FVec Ideal S384x24x128 .f32 := messages S.fst (k0_pay4 (F := Ideal)) R X0 (truncf .bf16 H0 bitsLt_bf16_f32)

/-- The block's features after the first layer. -/
def rows1 (S : Stacks) (R : FVec Ideal S128x128 .bf16) (X0 : FVec Ideal S384x128 .f32) (H0 : FVec Ideal S384x128 .f32) :
    FVec Ideal S384x128 .f32 :=
  newRows S.fst H0 (rowsMul (truncf .bf16 H0 bitsLt_bf16_f32) S.fst.n1a) (msgs0 S R X0 H0)

/-- The block's positions after the first layer. -/
def moved1 (S : Stacks) (R : FVec Ideal S128x128 .bf16) (X0 : FVec Ideal S384x128 .f32) (H0 : FVec Ideal S384x128 .f32) :
    FVec Ideal S384x128 .f32 := moved X0 (k0_pay18 R X0) (coordAct (msgs0 S R X0 H0) S.fst.c1) S.fst.c2

/-- The block's positions after the second layer. -/
def moved2 (S : Stacks) (R : FVec Ideal S128x128 .bf16) (X1 : FVec Ideal S384x128 .f32) (H1 : FVec Ideal S384x128 .f32) :
    FVec Ideal S384x128 .f32 :=
  moved X1 (k0_pay18 R X1) (coordAct (messages S.snd (k0_pay4 (F := Ideal)) R X1 (truncf .bf16 H1 bitsLt_bf16_f32)) S.snd.c1)
    S.snd.c2

/-- What a grid step stores, over its input blocks. -/
theorem out_eq (x0 : FVec Ideal S384x128 .f32) (x1 : FVec Ideal S24x24 .bf16) (x2 : FVec Ideal S24x128 .bf16) (S : Stacks)
    (x13 : FVec Ideal S128x128 .bf16) :
    out0_14 (F := Ideal) x0 x1 x2 S.e1a S.e1b S.e1c S.e2 S.att S.c1 S.c2 S.n1a S.n1b S.n2 x13
      = subf (moved2 S (k0_pay5 x13) (moved1 S (k0_pay5 x13) (k0_pay2 x0) (k0_pay3 x1 x2))
          (rows1 S (k0_pay5 x13) (k0_pay2 x0) (k0_pay3 x1 x2))) (k0_pay2 x0) := by
  unfold_out out0_14
  have l0 : View.ld (Val := Elt Ideal) (e' := .f32) x0 r0_0 = x0 :=
    View.ld_unit_lit (Val := Elt Ideal) (e := .f32) (S := S384x128) (off := ![0, 0]) _ x0 (by decide)
  have l1 : View.ld (Val := Elt Ideal) (e' := .bf16) x1 r0_1 = x1 :=
    View.ld_unit_lit (Val := Elt Ideal) (e := .bf16) (S := S24x24) (off := ![0, 0]) _ x1 (by decide)
  have l2 : View.ld (Val := Elt Ideal) (e' := .bf16) x2 r0_2 = x2 :=
    View.ld_unit_lit (Val := Elt Ideal) (e := .bf16) (S := S24x128) (off := ![0, 0]) _ x2 (by decide)
  have l3 : View.ld (Val := Elt Ideal) (e' := .bf16) x13 r0_3 = x13 :=
    View.ld_unit_lit (Val := Elt Ideal) (e := .bf16) (S := S128x128) (off := ![0, 0]) _ x13 (by decide)
  rw [l0, l1, l2, l3]
  exact View.canon_cons_unit_lit (Val := Elt Ideal) (S := S384x128) (off := ![0, 0]) _ _ _ (by decide)

/-- The features every graph starts with: the table's product, once per copy of the lanes. -/
theorem rows0_at (x1 : FVec Ideal S24x24 .bf16) (x2 : FVec Ideal S24x128 .bf16) (q : Fin 16) (i : Fin 24) (l : Fin 128) :
    (k0_pay3 (F := Ideal) x1 x2 (ix2 (nd q i) l) : EReal) = ∑ k : Fin 24, (x1 (ix2 i k) : EReal) * x2 (ix2 k l) := by
  pointwise [k0_pay3]
  have e : (⟨(nd q i).val % 24, Nat.mod_lt _ (by decide)⟩ : Fin 24) = i := Fin.ext (by simp only [nd]; omega)
  rw [e]

/-- A step's block holds the velocity of each graph that its input block holds. -/
theorem block_value (x0 : FVec Ideal S384x128 .f32) (x1 : FVec Ideal S24x24 .bf16) (x2 : FVec Ideal S24x128 .bf16) (S : Stacks)
    (x13 : FVec Ideal S128x128 .bf16) (W0 W1 : Weights) (h0 : S.Carry 0 W0) (h1 : S.Carry 1 W1) (hR : Sums3 x13)
    (q : Fin 16) (c : Fin 4) (x : Fin 22 → Fin 3 → EReal) (hx : ∀ i k, ∃ r : ℝ, x i k = r) (h : Fin 22 → Fin 32 → EReal)
    (hX : HoldsX x0 q c x) (hH : ∀ i f, ∑ k : Fin 24, (x1 (ix2 (up i) k) : EReal) * x2 (ix2 k (ln c f)) = h i f) (i : Fin 22) (k : Fin 3) :
    out0_14 (F := Ideal) x0 x1 x2 S.e1a S.e1b S.e1c S.e2 S.att S.c1 S.c2 S.n1a S.n1b S.n2 x13
        (ix2 (nd q (up i)) (ln c (l3 k))) = velocity W0 W1 x h i k := by
  have e0 : k0_pay2 (F := Ideal) x0 = x0 := shapeCast_id ..
  have e5 : k0_pay5 (F := Ideal) x13 = x13 := shapeCast_id ..
  rw [out_eq, e0, e5]
  have hH0 : HoldsH (k0_pay3 (F := Ideal) x1 x2) q c h := fun i f => (rows0_at x1 x2 q _ _).trans (hH i f)
  have hX1 : HoldsX (moved1 S x13 x0 (k0_pay3 x1 x2)) q c (nextX W0 x h) :=
    moved_holds h0.fst pay4_masks hR hx hX (H := truncf .bf16 (k0_pay3 (F := Ideal) x1 x2) bitsLt_bf16_f32) hH0
  have hH1 : HoldsH (rows1 S x13 x0 (k0_pay3 x1 x2)) q c (nextH W0 x h) := newRows_holds h0.fst pay4_masks hR _ hx hX hH0
  have hX2 := moved_holds h1.snd pay4_masks hR (nextX_real W0 x h hx) hX1
    (H := truncf .bf16 (rows1 S x13 x0 (k0_pay3 x1 x2)) bitsLt_bf16_f32) hH1
  rw [subf_at, hX]
  exact congrArg (· - x i k) (hX2 i k)

end Cert.Egnn

end
-- ==== Proof.Inputs.lean ====
module

public import proofs.«01_k».proof.Proof.Block
public import proofs.«01_k».proof.Proof.Args
public import Idealize.ShloMosaic.Lib.StableHlo.ReadAt

@[expose] public section

noncomputable section

/-! What the kernel's windows hold when the region starts: the host lines before it, read at an index. -/

namespace Cert.Egnn

open Idealize.ShloMosaic Cert.KernelIdeal Cert.KernelIdeal.Gen

/-- Lane `32 a + e` belongs to graph `a` of the four. -/
theorem ln_div (a : Fin 4) (e : Fin 32) : (ln a e).val / 32 = a.val := by simp only [ln]; omega
/-- Lane `32 a + e` holds feature `e`. -/
theorem ln_mod (a : Fin 4) (e : Fin 32) : (ln a e).val % 32 = e.val := by simp only [ln]; omega

/-- The identity's entry: an indicator. -/
theorem eye_word (a b : Fin 4) :
    (FloatOps.uitofp (F := Ideal) .f32 (IntOp.cmpi .eq (IntOp.addi (BitVec.ofNat 32 a.val) 0#32) (BitVec.ofNat 32 b.val)) : EReal)
      = if a = b then 1 else 0 := by
  have h : IntOp.cmpi .eq (IntOp.addi (BitVec.ofNat 32 a.val) 0#32) (BitVec.ofNat 32 b.val) = if a = b then 1#1 else 0#1 := by
    revert a b; decide +kernel
  rw [h]
  split
  · exact congrArg (fun n : ℕ => ((n : ℝ) : EReal)) (show (1#1).toNat = 1 from rfl) |>.trans (by norm_num)
  · exact congrArg (fun n : ℕ => ((n : ℝ) : EReal)) (show (0#1).toNat = 0 from rfl) |>.trans (by norm_num)

/-- Its product with a value. -/
theorem eye_mul (a b : Fin 4) (x : EReal) :
    (FloatOps.uitofp (F := Ideal) .f32 (IntOp.cmpi .eq (IntOp.addi (BitVec.ofNat 32 a.val) 0#32) (BitVec.ofNat 32 b.val)) : EReal) * x
      = if a = b then x else 0 := by
  rw [eye_word]; split
  · exact one_mul x
  · exact zero_mul x

/-- The padding's value. -/
theorem pad_zero : (FloatOps.sitofp (F := Ideal) .f32 0#32 : EReal) = 0 :=
  congrArg (fun z : ℤ => ((z : ℝ) : EReal)) (show (0#32).toInt = 0 from rfl) |>.trans (by norm_num)

variable (m : (ℓ : Loc nD τ sig) → Buf (Elt Ideal) ℓ) (c : Dev nD)

/-- The kernel's arguments. -/
def kArgs : Args :=
  ⟨m (c, Proc.tc.devRef main_arg0), m (c, Proc.tc.devRef main_arg1), m (c, Proc.tc.devRef main_arg2),
    m (c, Proc.tc.devRef main_arg3), m (c, Proc.tc.devRef main_arg5), m (c, Proc.tc.devRef main_arg7),
    m (c, Proc.tc.devRef main_arg9), m (c, Proc.tc.devRef main_arg11), m (c, Proc.tc.devRef main_arg13),
    m (c, Proc.tc.devRef main_arg15), m (c, Proc.tc.devRef main_arg17)⟩

/-- The edge network's rows for the receiving node. -/
theorem V_v30 (g : Fin 2) :
    Kron (fun l l' => (V (F := Ideal) m c main_v30 (ix3 g l l') : EReal)) ((kArgs m c).weights g).A := by
  intro a e b f
  unfold V V0
  simp only [List.flatten_cons, List.flatten_nil, List.append_nil]
  fin_cases g <;>
  · after_reads_simp
    try simp -implicitDefEqProofs only [StableHlo.TRef.toBuf, StableHlo.TRef.ofBuf, cast_cast, cast_eq]
    pointwise
    after_reads_simp
    try simp -implicitDefEqProofs only [StableHlo.TRef.toBuf, StableHlo.TRef.ofBuf, cast_cast, cast_eq]
    clean_types
    pointwise
    simp only [ln_div, ln_mod]
    rw [eye_mul]
    rfl

/-- Its rows for the sending node. -/
theorem V_v41 (g : Fin 2) :
    Kron (fun l l' => (V (F := Ideal) m c main_v41 (ix3 g l l') : EReal)) ((kArgs m c).weights g).B := by
  intro a e b f
  unfold V V0
  simp only [List.flatten_cons, List.flatten_nil, List.append_nil]
  fin_cases g <;>
  · after_reads_simp
    try simp -implicitDefEqProofs only [StableHlo.TRef.toBuf, StableHlo.TRef.ofBuf, cast_cast, cast_eq]
    pointwise
    after_reads_simp
    try simp -implicitDefEqProofs only [StableHlo.TRef.toBuf, StableHlo.TRef.ofBuf, cast_cast, cast_eq]
    clean_types
    pointwise
    simp only [ln_div, ln_mod]
    rw [eye_mul]
    rfl

/-- Its second matrix. -/
theorem V_v58 (g : Fin 2) :
    Kron (fun l l' => (V (F := Ideal) m c main_v58 (ix3 g l l') : EReal)) ((kArgs m c).weights g).E2 := by
  intro a e b f
  unfold V V0
  simp only [List.flatten_cons, List.flatten_nil, List.append_nil]
  fin_cases g <;>
  · after_reads_simp
    try simp -implicitDefEqProofs only [StableHlo.TRef.toBuf, StableHlo.TRef.ofBuf, cast_cast, cast_eq]
    pointwise
    after_reads_simp
    try simp -implicitDefEqProofs only [StableHlo.TRef.toBuf, StableHlo.TRef.ofBuf, cast_cast, cast_eq]
    clean_types
    pointwise
    simp only [ln_div, ln_mod]
    rw [eye_mul]
    rfl

/-- The attention vector, repeated over the columns. -/
theorem V_v72 (g : Fin 2) :
    Kron (fun l l' => (V (F := Ideal) m c main_v72 (ix3 g l l') : EReal)) (fun e _ => ((kArgs m c).weights g).att e) := by
  intro a e b f
  unfold V V0
  simp only [List.flatten_cons, List.flatten_nil, List.append_nil]
  fin_cases g <;>
  · after_reads_simp
    try simp -implicitDefEqProofs only [StableHlo.TRef.toBuf, StableHlo.TRef.ofBuf, cast_cast, cast_eq]
    pointwise
    after_reads_simp
    try simp -implicitDefEqProofs only [StableHlo.TRef.toBuf, StableHlo.TRef.ofBuf, cast_cast, cast_eq]
    clean_types
    pointwise
    simp only [ln_div, ln_mod]
    rw [eye_mul]
    rfl

/-- The coordinate network's first matrix. -/
theorem V_v82 (g : Fin 2) :
    Kron (fun l l' => (V (F := Ideal) m c main_v82 (ix3 g l l') : EReal)) ((kArgs m c).weights g).C1 := by
  intro a e b f
  unfold V V0
  simp only [List.flatten_cons, List.flatten_nil, List.append_nil]
  fin_cases g <;>
  · after_reads_simp
    try simp -implicitDefEqProofs only [StableHlo.TRef.toBuf, StableHlo.TRef.ofBuf, cast_cast, cast_eq]
    pointwise
    after_reads_simp
    try simp -implicitDefEqProofs only [StableHlo.TRef.toBuf, StableHlo.TRef.ofBuf, cast_cast, cast_eq]
    clean_types
    pointwise
    simp only [ln_div, ln_mod]
    rw [eye_mul]
    rfl

/-- Its last vector, repeated over the columns. -/
theorem V_v96 (g : Fin 2) :
    Kron (fun l l' => (V (F := Ideal) m c main_v96 (ix3 g l l') : EReal)) (fun e _ => ((kArgs m c).weights g).c2 e) := by
  intro a e b f
  unfold V V0
  simp only [List.flatten_cons, List.flatten_nil, List.append_nil]
  fin_cases g <;>
  · after_reads_simp
    try simp -implicitDefEqProofs only [StableHlo.TRef.toBuf, StableHlo.TRef.ofBuf, cast_cast, cast_eq]
    pointwise
    after_reads_simp
    try simp -implicitDefEqProofs only [StableHlo.TRef.toBuf, StableHlo.TRef.ofBuf, cast_cast, cast_eq]
    clean_types
    pointwise
    simp only [ln_div, ln_mod]
    rw [eye_mul]
    rfl

/-- The node network's rows for the features. -/
theorem V_v107 (g : Fin 2) :
    Kron (fun l l' => (V (F := Ideal) m c main_v107 (ix3 g l l') : EReal)) ((kArgs m c).weights g).N1a := by
  intro a e b f
  unfold V V0
  simp only [List.flatten_cons, List.flatten_nil, List.append_nil]
  fin_cases g <;>
  · after_reads_simp
    try simp -implicitDefEqProofs only [StableHlo.TRef.toBuf, StableHlo.TRef.ofBuf, cast_cast, cast_eq]
    pointwise
    after_reads_simp
    try simp -implicitDefEqProofs only [StableHlo.TRef.toBuf, StableHlo.TRef.ofBuf, cast_cast, cast_eq]
    clean_types
    pointwise
    simp only [ln_div, ln_mod]
    rw [eye_mul]
    rfl

/-- Its rows for the messages. -/
theorem V_v118 (g : Fin 2) :
    Kron (fun l l' => (V (F := Ideal) m c main_v118 (ix3 g l l') : EReal)) ((kArgs m c).weights g).N1b := by
  intro a e b f
  unfold V V0
  simp only [List.flatten_cons, List.flatten_nil, List.append_nil]
  fin_cases g <;>
  · after_reads_simp
    try simp -implicitDefEqProofs only [StableHlo.TRef.toBuf, StableHlo.TRef.ofBuf, cast_cast, cast_eq]
    pointwise
    after_reads_simp
    try simp -implicitDefEqProofs only [StableHlo.TRef.toBuf, StableHlo.TRef.ofBuf, cast_cast, cast_eq]
    clean_types
    pointwise
    simp only [ln_div, ln_mod]
    rw [eye_mul]
    rfl

/-- Its last matrix. -/
theorem V_v128 (g : Fin 2) :
    Kron (fun l l' => (V (F := Ideal) m c main_v128 (ix3 g l l') : EReal)) ((kArgs m c).weights g).N2 := by
  intro a e b f
  unfold V V0
  simp only [List.flatten_cons, List.flatten_nil, List.append_nil]
  fin_cases g <;>
  · after_reads_simp
    try simp -implicitDefEqProofs only [StableHlo.TRef.toBuf, StableHlo.TRef.ofBuf, cast_cast, cast_eq]
    pointwise
    after_reads_simp
    try simp -implicitDefEqProofs only [StableHlo.TRef.toBuf, StableHlo.TRef.ofBuf, cast_cast, cast_eq]
    clean_types
    pointwise
    simp only [ln_div, ln_mod]
    rw [eye_mul]
    rfl

/-- The edge network's row for the squared distance, once per copy. -/
theorem V_v48 (g : Fin 2) (j : Fin 4) (f : Fin 32) :
    V (F := Ideal) m c main_v48 (ix3 g 0 (ln j f)) = ((kArgs m c).weights g).C f := by
  unfold V V0
  simp only [List.flatten_cons, List.flatten_nil, List.append_nil]
  after_reads_simp
  try simp -implicitDefEqProofs only [StableHlo.TRef.toBuf, StableHlo.TRef.ofBuf, cast_cast, cast_eq]
  clean_types
  pointwise
  simp only [ln_mod]
  rfl

/-- The matrix that sums the three coordinates' lanes. -/
theorem V_v133 : Kron (fun l l' => (V (F := Ideal) m c main_v133 (ix2 l l') : EReal)) (fun e _ => if e.val < 3 then 1 else 0) := by
  intro a e b f
  unfold V V0
  simp only [List.flatten_cons, List.flatten_nil, List.append_nil]
  after_reads_simp
  try simp -implicitDefEqProofs only [StableHlo.TRef.toBuf, StableHlo.TRef.ofBuf, cast_cast, cast_eq]
  clean_types
  pointwise
  after_reads_simp
  try simp -implicitDefEqProofs only [StableHlo.TRef.toBuf, StableHlo.TRef.ofBuf, cast_cast, cast_eq]
  clean_types
  pointwise
  simp only [ln_div, ln_mod]
  rw [eye_mul]
  rfl

/-- The one-hot table with the time beside it, padded. -/
theorem V_v134 (i : Fin 22) (k : Fin 24) :
    V (F := Ideal) m c main_v134 (ix2 (up i) k)
      = if h : k.val < 22 then (kArgs m c).h0 (ix2 i ⟨k.val, h⟩) else if k.val < 23 then (kArgs m c).t (ix1 0) else (0 : EReal) := by
  unfold V V0
  simp only [List.flatten_cons, List.flatten_nil, List.append_nil]
  after_reads_simp
  try simp -implicitDefEqProofs only [StableHlo.TRef.toBuf, StableHlo.TRef.ofBuf, cast_cast, cast_eq]
  clean_types
  pointwise
  after_reads_simp
  try simp -implicitDefEqProofs only [StableHlo.TRef.toBuf, StableHlo.TRef.ofBuf, cast_cast, cast_eq]
  clean_types
  pointwise
  have hi : (up i).val < 22 := i.isLt
  by_cases h : k.val < 22
  · rw [dif_pos ⟨hi, by omega⟩, dif_pos h, dif_pos h]; rfl
  · rw [dif_neg h]
    by_cases h' : k.val < 23
    · rw [dif_pos ⟨hi, h'⟩, dif_neg h, if_pos h']; rfl
    · rw [dif_neg (fun hh => h' hh.2), if_neg h']; exact pad_zero

/-- The embedding, padded and once per copy. -/
theorem V_v135 (k : Fin 24) (j : Fin 4) (f : Fin 32) :
    V (F := Ideal) m c main_v135 (ix2 k (ln j f)) = if h : k.val < 23 then (kArgs m c).emb (ix2 ⟨k.val, h⟩ f) else (0 : EReal) := by
  unfold V V0
  simp only [List.flatten_cons, List.flatten_nil, List.append_nil]
  after_reads_simp
  try simp -implicitDefEqProofs only [StableHlo.TRef.toBuf, StableHlo.TRef.ofBuf, cast_cast, cast_eq]
  clean_types
  pointwise
  simp only [ln_mod, pad_zero]
  rfl

/-- The two arrays under their own types. -/
def hotRows : FVec Ideal S24x24 .bf16 := V (F := Ideal) m c main_v134
/-- The embedding's rows, once for each of the four graphs. -/
def embRows : FVec Ideal S24x128 .bf16 := V (F := Ideal) m c main_v135

/-- Their product at a graph's row: the starting features. -/
theorem feat_eq (i : Fin 22) (j : Fin 4) (f : Fin 32) :
    ∑ k : Fin 24, (hotRows m c (ix2 (up i) k) : EReal) * embRows m c (ix2 k (ln j f)) = (kArgs m c).feat i f := by
  have h1 := V_v134 m c i
  have h2 := fun k => V_v135 m c k j f
  refine (Finset.sum_congr rfl fun k _ => congrArg₂ (fun x y : EReal => x * y) (h1 k) (h2 k)).trans ?_
  rw [Fin.sum_univ_castSucc, Fin.sum_univ_castSucc]
  simp only [Fin.val_last, Fin.val_castSucc]
  rw [dif_neg (show ¬ 23 < 22 by decide), if_neg (show ¬ 23 < 23 by decide), zero_mul, add_zero,
    dif_neg (show ¬ 22 < 22 by decide), if_pos (show 22 < 23 by decide), dif_pos (show 22 < 23 by decide)]
  refine congrArg (· + _) (Finset.sum_congr rfl fun k _ => ?_)
  rw [dif_pos k.isLt, dif_pos (by omega)]

/-- A row of the positions' array: row `i` of group `b`, lanes of copy `j`, is a node of graph `4 b + j`. -/
theorem V_v4 (b : Fin 512) (j : Fin 4) (i : Fin 22) (k : Fin 3) :
    V (F := Ideal) m c main_v4 (ix2 ⟨b.val * 24 + (up i).val, by omega⟩ (ln j (l3 k)))
      = (kArgs m c).pos ⟨b.val * 4 + j.val, by omega⟩ i k := by
  unfold V V0
  simp only [List.flatten_cons, List.flatten_nil, List.append_nil]
  after_reads_simp
  try simp -implicitDefEqProofs only [StableHlo.TRef.toBuf, StableHlo.TRef.ofBuf, cast_cast, cast_eq]
  clean_types
  pointwise
  simp only [ln_div, ln_mod]
  rw [dif_pos ⟨by omega, i.isLt, k.isLt⟩]
  rfl

end Cert.Egnn

end
-- ==== Proof.Output.lean ====
module

public import proofs.«01_k».proof.Proof.Inputs
public import Idealize.ShloMosaic.Lib.Pipeline.ValueKit.Point

@[expose] public section

noncomputable section

/-! The kernel's output array: every grid step's block holds its graphs' velocities. -/

namespace Cert.Egnn

open Idealize.ShloMosaic Cert.KernelIdeal Cert.KernelIdeal.Gen

variable (m : (ℓ : Loc nD τ sig) → Buf (Elt Ideal) ℓ) (c : Dev nD)

/-! The windows' arrays under their own types. -/

/-- The operand with the source part of the first edge weights. -/
def e1aW : FVec Ideal S2x128x128 .bf16 := V (F := Ideal) m c main_v30
/-- The operand with the target part of the first edge weights. -/
def e1bW : FVec Ideal S2x128x128 .bf16 := V (F := Ideal) m c main_v41
/-- The operand with the distance row of the first edge weights. -/
def e1cW : FVec Ideal S2x1x128 .bf16 := V (F := Ideal) m c main_v48
/-- The operand with the second edge weights. -/
def e2W : FVec Ideal S2x128x128 .bf16 := V (F := Ideal) m c main_v58
/-- The operand with the attention weights. -/
def attW : FVec Ideal S2x128x128 .bf16 := V (F := Ideal) m c main_v72
/-- The operand with the first coordinate weights. -/
def c1W : FVec Ideal S2x128x128 .bf16 := V (F := Ideal) m c main_v82
/-- The operand with the second coordinate weights. -/
def c2W : FVec Ideal S2x128x128 .bf16 := V (F := Ideal) m c main_v96
/-- The operand with the own part of the first node weights. -/
def n1aW : FVec Ideal S2x128x128 .bf16 := V (F := Ideal) m c main_v107
/-- The operand with the message part of the first node weights. -/
def n1bW : FVec Ideal S2x128x128 .bf16 := V (F := Ideal) m c main_v118
/-- The operand with the second node weights. -/
def n2W : FVec Ideal S2x128x128 .bf16 := V (F := Ideal) m c main_v128
/-- The operand that adds the three coordinates up. -/
def sumsW : FVec Ideal S128x128 .bf16 := V (F := Ideal) m c main_v133
/-- The positions' rows. -/
def posW : FVec Ideal S12288x128 .f32 := V (F := Ideal) m c main_v4

/-- The positions' window and the output's move along the rows with the grid. -/
theorem idx_rows : ∀ t : Fin cfg0.N, win0_0.index t = ![t.val, 0] ∧ win0_14.index t = ![t.val, 0] := by decide +kernel

/-- Step `t` loads rows `384 t` to `384 t + 383` of the positions. -/
theorem iblk0_at (t : Fin cfg0.N) (r : Fin 384) (l : Fin 128) :
    iblk m c 0 t (ix2 r l) = posW m c (ix2 ⟨t.val * 384 + r.val, by have := t.isLt; have h : cfg0.N = 32 := rfl; omega⟩ l) := by
  unfold iblk posW
  generalize V m c = Q
  blk_ext [(idx_rows t).1]

/-- The other windows' blocks are their whole arrays at every step. -/
theorem idx_whole : ∀ t : Fin cfg0.N, win0_1.index t = ![0, 0] ∧ win0_2.index t = ![0, 0] ∧ win0_3.index t = ![0, 0, 0] ∧ win0_4.index t = ![0, 0, 0] ∧ win0_5.index t = ![0, 0, 0] ∧
    win0_6.index t = ![0, 0, 0] ∧ win0_7.index t = ![0, 0, 0] ∧ win0_8.index t = ![0, 0, 0] ∧ win0_9.index t = ![0, 0, 0] ∧ win0_10.index t = ![0, 0, 0] ∧
    win0_11.index t = ![0, 0, 0] ∧ win0_12.index t = ![0, 0, 0] ∧ win0_13.index t = ![0, 0] := by
  decide +kernel

/-- Every step's window 1 holds the whole operand `hotRows`. -/
theorem iblk1_eq (t : Fin cfg0.N) : iblk m c 1 t = hotRows m c := by
  unfold iblk hotRows
  generalize V m c = Q
  funext x
  blk_ext [(idx_whole t).1]

/-- Every step's window 2 holds the whole operand `embRows`. -/
theorem iblk2_eq (t : Fin cfg0.N) : iblk m c 2 t = embRows m c := by
  unfold iblk embRows
  generalize V m c = Q
  funext x
  blk_ext [(idx_whole t).2.1]

/-- Every step's window 3 holds the whole operand `e1aW`. -/
theorem iblk3_eq (t : Fin cfg0.N) : iblk m c 3 t = e1aW m c := by
  unfold iblk e1aW
  generalize V m c = Q
  funext x
  blk_ext [(idx_whole t).2.2.1]

/-- Every step's window 4 holds the whole operand `e1bW`. -/
theorem iblk4_eq (t : Fin cfg0.N) : iblk m c 4 t = e1bW m c := by
  unfold iblk e1bW
  generalize V m c = Q
  funext x
  blk_ext [(idx_whole t).2.2.2.1]

/-- Every step's window 5 holds the whole operand `e1cW`. -/
theorem iblk5_eq (t : Fin cfg0.N) : iblk m c 5 t = e1cW m c := by
  unfold iblk e1cW
  generalize V m c = Q
  funext x
  blk_ext [(idx_whole t).2.2.2.2.1]

/-- Every step's window 6 holds the whole operand `e2W`. -/
theorem iblk6_eq (t : Fin cfg0.N) : iblk m c 6 t = e2W m c := by
  unfold iblk e2W
  generalize V m c = Q
  funext x
  blk_ext [(idx_whole t).2.2.2.2.2.1]

/-- Every step's window 7 holds the whole operand `attW`. -/
theorem iblk7_eq (t : Fin cfg0.N) : iblk m c 7 t = attW m c := by
  unfold iblk attW
  generalize V m c = Q
  funext x
  blk_ext [(idx_whole t).2.2.2.2.2.2.1]

/-- Every step's window 8 holds the whole operand `c1W`. -/
theorem iblk8_eq (t : Fin cfg0.N) : iblk m c 8 t = c1W m c := by
  unfold iblk c1W
  generalize V m c = Q
  funext x
  blk_ext [(idx_whole t).2.2.2.2.2.2.2.1]

/-- Every step's window 9 holds the whole operand `c2W`. -/
theorem iblk9_eq (t : Fin cfg0.N) : iblk m c 9 t = c2W m c := by
  unfold iblk c2W
  generalize V m c = Q
  funext x
  blk_ext [(idx_whole t).2.2.2.2.2.2.2.2.1]

/-- Every step's window 10 holds the whole operand `n1aW`. -/
theorem iblk10_eq (t : Fin cfg0.N) : iblk m c 10 t = n1aW m c := by
  unfold iblk n1aW
  generalize V m c = Q
  funext x
  blk_ext [(idx_whole t).2.2.2.2.2.2.2.2.2.1]

/-- Every step's window 11 holds the whole operand `n1bW`. -/
theorem iblk11_eq (t : Fin cfg0.N) : iblk m c 11 t = n1bW m c := by
  unfold iblk n1bW
  generalize V m c = Q
  funext x
  blk_ext [(idx_whole t).2.2.2.2.2.2.2.2.2.2.1]

/-- Every step's window 12 holds the whole operand `n2W`. -/
theorem iblk12_eq (t : Fin cfg0.N) : iblk m c 12 t = n2W m c := by
  unfold iblk n2W
  generalize V m c = Q
  funext x
  blk_ext [(idx_whole t).2.2.2.2.2.2.2.2.2.2.2.1]

/-- Every step's window 13 holds the whole operand `sumsW`. -/
theorem iblk13_eq (t : Fin cfg0.N) : iblk m c 13 t = sumsW m c := by
  unfold iblk sumsW
  generalize V m c = Q
  funext x
  blk_ext [(idx_whole t).2.2.2.2.2.2.2.2.2.2.2.2]

/-! The windows' arrays are the weights' block matrices. -/

/-- It carries the source part of the first edge weights, for each of the four graphs. -/
theorem e1aW_eq (g : Fin 2) : Kron (fun a b => e1aW m c (ix3 g a b)) ((kArgs m c).weights g).A := V_v30 m c g
/-- It carries the target part of the first edge weights, for each of the four graphs. -/
theorem e1bW_eq (g : Fin 2) : Kron (fun a b => e1bW m c (ix3 g a b)) ((kArgs m c).weights g).B := V_v41 m c g
/-- It carries the distance row of the first edge weights, for each of the four graphs. -/
theorem e1cW_eq (g : Fin 2) : ∀ j f, e1cW m c (ix3 g 0 (ln j f)) = ((kArgs m c).weights g).C f := V_v48 m c g
/-- It carries the second edge weights, for each of the four graphs. -/
theorem e2W_eq (g : Fin 2) : Kron (fun a b => e2W m c (ix3 g a b)) ((kArgs m c).weights g).E2 := V_v58 m c g
/-- It carries the attention weights, for each of the four graphs. -/
theorem attW_eq (g : Fin 2) : Kron (fun a b => attW m c (ix3 g a b)) (fun e _ => ((kArgs m c).weights g).att e) := V_v72 m c g
/-- It carries the first coordinate weights, for each of the four graphs. -/
theorem c1W_eq (g : Fin 2) : Kron (fun a b => c1W m c (ix3 g a b)) ((kArgs m c).weights g).C1 := V_v82 m c g
/-- It carries the second coordinate weights, for each of the four graphs. -/
theorem c2W_eq (g : Fin 2) : Kron (fun a b => c2W m c (ix3 g a b)) (fun e _ => ((kArgs m c).weights g).c2 e) := V_v96 m c g
/-- It carries the own part of the first node weights, for each of the four graphs. -/
theorem n1aW_eq (g : Fin 2) : Kron (fun a b => n1aW m c (ix3 g a b)) ((kArgs m c).weights g).N1a := V_v107 m c g
/-- It carries the message part of the first node weights, for each of the four graphs. -/
theorem n1bW_eq (g : Fin 2) : Kron (fun a b => n1bW m c (ix3 g a b)) ((kArgs m c).weights g).N1b := V_v118 m c g
/-- It carries the second node weights, for each of the four graphs. -/
theorem n2W_eq (g : Fin 2) : Kron (fun a b => n2W m c (ix3 g a b)) ((kArgs m c).weights g).N2 := V_v128 m c g
/-- The matrix of ones adds the three coordinates up. -/
theorem sumsW_eq : Sums3 (sumsW m c) := V_v133 m c

attribute [local irreducible] e1aW e1bW e1cW e2W attW c1W c2W n1aW n1bW n2W sumsW hotRows embRows

/-- The block matrices the windows hold. -/
def winMats : Stacks :=
  ⟨e1aW m c, e1bW m c, e1cW m c, e2W m c, attW m c, c1W m c, c2W m c, n1aW m c, n1bW m c, n2W m c⟩

/-- The operands' stacks carry the weights of both layers. -/
theorem winMats_carry (g : Fin 2) : (winMats m c).Carry g ((kArgs m c).weights g) :=
  ⟨e1aW_eq m c g, e1bW_eq m c g, e1cW_eq m c g, e2W_eq m c g, attW_eq m c g, c1W_eq m c g, c2W_eq m c g, n1aW_eq m c g, n1bW_eq m c g, n2W_eq m c g⟩

/-- Step `t`'s block of positions. -/
def posBlock (t : Fin cfg0.N) : FVec Ideal S384x128 .f32 := iblk m c 0 t

/-- What step `t` stores. -/
def stepBlock (t : Fin cfg0.N) : FVec Ideal S384x128 .f32 :=
  out0_14 (F := Ideal) (posBlock m c t) (hotRows m c) (embRows m c) (winMats m c).e1a (winMats m c).e1b (winMats m c).e1c
    (winMats m c).e2 (winMats m c).att (winMats m c).c1 (winMats m c).c2 (winMats m c).n1a (winMats m c).n1b (winMats m c).n2
    (sumsW m c)

/-- A step's block is what the block's program makes of its operands. -/
theorem stepBlock_eq (t : Fin cfg0.N) : stepBlock m c t = out0_14 (F := Ideal) (iblk m c 0 t) (iblk m c 1 t) (iblk m c 2 t)
    (iblk m c 3 t) (iblk m c 4 t) (iblk m c 5 t) (iblk m c 6 t) (iblk m c 7 t) (iblk m c 8 t) (iblk m c 9 t) (iblk m c 10 t)
    (iblk m c 11 t) (iblk m c 12 t) (iblk m c 13 t) := by
  unfold stepBlock winMats posBlock
  rewrite [iblk1_eq, iblk2_eq, iblk3_eq, iblk4_eq, iblk5_eq, iblk6_eq, iblk7_eq, iblk8_eq, iblk9_eq, iblk10_eq, iblk11_eq,
    iblk12_eq, iblk13_eq]
  with_reducible rfl

/-- The output's window holds the step's block when the step is over. -/
theorem after_eq (t : Fin cfg0.N) : (dats m 0 c).after 14 t = stepBlock m c t :=
  (after0_14 m c t).trans (stepBlock_eq m c t).symm

/-- Copy `j` of group `q` of step `t` is graph `64 t + 4 q + j`; the block holds its velocity. -/
theorem stepBlock_at (hx : ∀ b i k, ∃ r : ℝ, (kArgs m c).pos b i k = r) (t : Fin 32) (q : Fin 16) (j : Fin 4) (i : Fin 22)
    (k : Fin 3) : (stepBlock m c t (ix2 (nd q (up i)) (ln j (l3 k))) : EReal)
      = velocity ((kArgs m c).weights 0) ((kArgs m c).weights 1) ((kArgs m c).pos ⟨(t.val * 16 + q.val) * 4 + j.val, by omega⟩)
          (kArgs m c).feat i k := by
  refine block_value (posBlock m c t) (hotRows m c) (embRows m c) (winMats m c) (sumsW m c) _ _
    (winMats_carry m c 0) (winMats_carry m c 1) (sumsW_eq m c) q j _ (hx _) _ ?_ (fun i f => feat_eq m c i j f) i k
  intro i k
  refine (iblk0_at m c t _ _).trans (Eq.trans ?_ (V_v4 m c ⟨t.val * 16 + q.val, by omega⟩ j i k))
  refine congrArg (posW m c) (congrArg (fun r => ix2 r (ln j (l3 k))) (Fin.ext ?_))
  simp only [nd]
  omega

/-- The output array after the run: every row is in the block of the step that stores it. -/
theorem arr_eq : (dats m 0 c).arrAt 14 cfg0.N = fun x : S12288x128.Idx =>
    stepBlock m c ⟨(x 0).val / 384, by have h : (x 0).val < 12288 := (x 0).isLt; show _ < 32; omega⟩
      (ix2 ⟨(x 0).val % 384, Nat.mod_lt _ (by decide)⟩ ⟨(x 1).val, (x 1).isLt⟩) := by
  refine (dats m 0 c).arrAt_eq_of_covers 14 _ (by decide +kernel) fun t hf y => ?_
  blk_simp [(idx_rows t).2]
  rw [after_eq]
  have h0 : (y 0).val < 384 := (y 0).isLt
  have h1 : (⟨(t.val * 384 + (y 0).val) / 384, by have := t.isLt; have h : cfg0.grid.N = 32 := rfl; show _ < 32; omega⟩ : Fin cfg0.N) = t :=
    Fin.ext (by show (t.val * 384 + (y 0).val) / 384 = t.val; omega)
  exact (congrArg₂ (fun u (i : S384x128.Idx) => stepBlock m c u i) h1 (funext fun d => by
    match d with
    | 0 => exact Fin.ext (by show (t.val * 384 + (y 0).val) % 384 = (y 0).val; omega)
    | 1 => rfl)).symm

end Cert.Egnn

end
-- ==== Proof.Suffix.lean ====
module

public import proofs.«01_k».proof.Proof.Output

@[expose] public section

noncomputable section

/-! The kernel's result: the rows of its output array, put back in the order of the graphs. -/

namespace Cert.Egnn

open Idealize.ShloMosaic Cert.KernelIdeal Cert.KernelIdeal.Gen

/-- The host operations after the kernel, read at an index: the left half is the output array's, the right half zero. -/
theorem host_tail (Q : Valuation τ sig (Elt Ideal)) (b : Fin 2048) (j : Fin 132) :
    (StableHlo.after (hostOps1 (F := Ideal)) Q (Proc.devRef .tc main_v142) : FVec Ideal S2048x132 .f32) (ix2 b j)
      = if h : j.val < 66 then (Q (Proc.devRef .tc main_v136) : FVec Ideal S12288x128 .f32)
          (ix2 ⟨b.val / 4 * 24 + j.val / 3, by omega⟩ ⟨b.val % 4 * 32 + j.val % 3, by omega⟩) else (0 : EReal) := by
  after_reads_simp
  try simp -implicitDefEqProofs only [StableHlo.TRef.toBuf, StableHlo.TRef.ofBuf, cast_cast, cast_eq]
  clean_types
  pointwise

/-- What the kernel leaves in its result: the velocities of all graphs, beside zeros. -/
theorem kernel_result (m : (ℓ : Loc nD τ sig) → Buf (Elt Ideal) ℓ) (c : Dev nD)
    (hx : ∀ b i k, ∃ r : ℝ, (kArgs m c).pos b i k = r) :
    (Pipeline.afterTail₀ cfgs (dats m) 0 (V0 m) [hostOps1 (F := Ideal)] c main_v142 : FVec Ideal S2048x132 .f32)
      = fun x => (kArgs m c).result ⟨(x 0).val, (x 0).isLt⟩ ⟨(x 1).val, (x 1).isLt⟩ := by
  funext x
  obtain ⟨b, j, rfl⟩ : ∃ (b : Fin 2048) (j : Fin 132), x = ix2 b j :=
    ⟨x 0, x 1, by funext a; match a with | ⟨0, _⟩ => rfl | ⟨1, _⟩ => rfl⟩
  unfold Pipeline.afterTail₀
  simp only [List.flatten_cons, List.flatten_nil, List.append_nil]
  refine (host_tail _ b j).trans ?_
  show _ = (kArgs m c).result b j
  unfold Args.result
  by_cases h : j.val < 66
  · rw [dif_pos h, dif_pos h]
    refine (congrFun ((Pipeline.withArrays_arr (cfgs 0).spec launch0.win.arr_inj c (V0 m c)
      (fun w => (dats m 0 c).arrAt w (cfgs 0).N) 14).trans (arr_eq m c)) _).trans ?_
    refine Eq.trans ?_ ((stepBlock_at m c hx ⟨b.val / 64, by omega⟩ ⟨b.val % 64 / 4, by omega⟩ ⟨b.val % 4, by omega⟩
      ⟨j.val / 3, by omega⟩ ⟨j.val % 3, by omega⟩).trans ?_)
    · refine congrArg₂ (fun u (i : S384x128.Idx) => stepBlock m c u i) (Fin.ext ?_) (funext fun d => Fin.ext ?_)
      · show (b.val / 4 * 24 + j.val / 3) / 384 = b.val / 64
        omega
      · match d with
        | ⟨0, _⟩ => show (b.val / 4 * 24 + j.val / 3) % 384 = b.val % 64 / 4 * 24 + j.val / 3; omega
        | ⟨1, _⟩ => rfl
    · refine congrArg (fun u => velocity _ _ ((kArgs m c).pos u) _ _ _) (Fin.ext ?_)
      show (b.val / 64 * 16 + b.val % 64 / 4) * 4 + b.val % 4 = b.val
      omega
  · rw [dif_neg h, dif_neg h]

end Cert.Egnn

end
-- ==== Proof.Precond.lean ====
module

public import proofs.«01_k».proof.Defs
public import proofs.«01_k».proof.Proof.RefValue
public import proofs.«01_k».proof.Proof.Suffix

@[expose] public section

noncomputable section

/-! What the precondition says: every bias is zero, every coordinate a real number. -/

namespace Cert.Egnn

open Idealize.ShloMosaic Idealize.ShloMosaic.StableHlo

/-- The shape relations the precondition's operations take. -/
theorem preFacts : Cert.Pre_zero_biases_finite_coordinates.Facts := ⟨by decide, by decide, by decide, by decide⟩

/-- The word `0x7F800000` reads `+∞`. -/
theorem inf_word : (Ideal.ofBits .f32 0x7F800000#32 : EReal) = ⊤ := by
  simp [Ideal.ofBits, Ideal.ieee]

/-- A comparison's bit says the two are equal. -/
theorem eq_of_oeq {x y : EReal} (h : Ideal.cmp .oeq x y = 1#1) : x = y := by
  by_contra hn
  exact absurd h (by simp [Ideal.cmp, hn])

/-- A value whose size lies under `+∞` is a real number. -/
theorem real_of_olt {x : EReal} (h : Ideal.cmp .olt (max x (-x)) (Ideal.ofBits .f32 0x7F800000#32) = 1#1) : ∃ r : ℝ, x = r := by
  rw [inf_word] at h
  have h' : max x (-x) < ⊤ := by
    by_contra hn
    exact absurd h (by rw [Ideal.cmp, decide_eq_false hn]; decide)
  induction x with
  | bot => simp at h'
  | top => simp at h'
  | coe r => exact ⟨r, rfl⟩

section

open Cert.KernelIdeal

variable (m : (ℓ : Loc nD τ sig) → Buf (Elt Ideal) ℓ)
  (hp : Cert.Pre_KernelIdeal_zero_biases_finite_coordinates (hPre_zero_biases_finite_coordinates := preFacts) m) (c : Dev nD)

include hp

/-- Every coordinate of the kernel's first argument is a real number. -/
theorem coord_real (x : S2048x66.Idx) : ∃ r : ℝ, (m ((c.tc : Thread nD τ).loc main_arg0) : FVec Ideal S2048x66 .f32) x = (r : EReal) :=
  real_of_olt (congrFun (hp c).1 x)

/-- So is every position. -/
theorem pos_real (b : Fin 2048) (i : Fin 22) (k : Fin 3) : ∃ r : ℝ, (kArgs m c).pos b i k = r := coord_real m hp c _

/-- The embedding bias is zero. -/
theorem b4 (x : S32.Idx) : (m ((c.tc : Thread nD τ).loc main_arg4) : FVec Ideal S32 .f32) x = (0 : EReal) :=
  (eq_of_oeq (congrFun (hp c).2.1 x)).trans Ideal.ofBits_zero_f32

/-- The first edge bias is zero. -/
theorem b6 (x : S2x32.Idx) : (m ((c.tc : Thread nD τ).loc main_arg6) : FVec Ideal S2x32 .f32) x = (0 : EReal) :=
  (eq_of_oeq (congrFun (hp c).2.2.1 x)).trans Ideal.ofBits_zero_f32

/-- The second edge bias is zero. -/
theorem b8 (x : S2x32.Idx) : (m ((c.tc : Thread nD τ).loc main_arg8) : FVec Ideal S2x32 .f32) x = (0 : EReal) :=
  (eq_of_oeq (congrFun (hp c).2.2.2.1 x)).trans Ideal.ofBits_zero_f32

/-- The attention bias is zero. -/
theorem b10 (x : S2x1.Idx) : (m ((c.tc : Thread nD τ).loc main_arg10) : FVec Ideal S2x1 .f32) x = (0 : EReal) :=
  (eq_of_oeq (congrFun (hp c).2.2.2.2.1 x)).trans Ideal.ofBits_zero_f32

/-- The first node bias is zero. -/
theorem b12 (x : S2x32.Idx) : (m ((c.tc : Thread nD τ).loc main_arg12) : FVec Ideal S2x32 .f32) x = (0 : EReal) :=
  (eq_of_oeq (congrFun (hp c).2.2.2.2.2.1 x)).trans Ideal.ofBits_zero_f32

/-- The second node bias is zero. -/
theorem b14 (x : S2x32.Idx) : (m ((c.tc : Thread nD τ).loc main_arg14) : FVec Ideal S2x32 .f32) x = (0 : EReal) :=
  (eq_of_oeq (congrFun (hp c).2.2.2.2.2.2.1 x)).trans Ideal.ofBits_zero_f32

/-- The first coordinate bias is zero. -/
theorem b16 (x : S2x32.Idx) : (m ((c.tc : Thread nD τ).loc main_arg16) : FVec Ideal S2x32 .f32) x = (0 : EReal) :=
  (eq_of_oeq (congrFun (hp c).2.2.2.2.2.2.2.1 x)).trans Ideal.ofBits_zero_f32

/-- The second coordinate bias is zero. -/
theorem b18 (x : S2x1.Idx) : (m ((c.tc : Thread nD τ).loc main_arg18) : FVec Ideal S2x1 .f32) x = (0 : EReal) :=
  (eq_of_oeq (congrFun (hp c).2.2.2.2.2.2.2.2 x)).trans Ideal.ofBits_zero_f32

end

end Cert.Egnn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Precond
public import Idealize.ShloMosaic.Adequacy
public import Idealize.ShloMosaic.Init

@[expose] public section

noncomputable section

namespace Cert.Proof

open Idealize.ShloMosaic Idealize.SL.Sem Cert.Kernel

/-- The graph network's velocities beside zeros: the array both programs end with. -/
def value (m : (ℓ : Loc Cert.KernelIdeal.nD Cert.KernelIdeal.τ Cert.KernelIdeal.sig) → Buf (Elt Ideal) ℓ) (c : Dev Cert.KernelIdeal.nD) :
    FVec Ideal Cert.KernelIdeal.S2048x132 .f32 :=
  fun x => (Cert.Egnn.kArgs m c).result ⟨(x 0).val, (x 0).isLt⟩ ⟨(x 1).val, (x 1).isLt⟩

/-- The kernel ends with the velocities, its arguments as they were. -/
theorem kernel_run (m : (ℓ : Loc Cert.KernelIdeal.nD Cert.KernelIdeal.τ Cert.KernelIdeal.sig) → Buf (Elt Ideal) ℓ)
    (g : Dev Cert.KernelIdeal.nD → PrngReg)
    (hp : Cert.Pre_KernelIdeal_zero_biases_finite_coordinates (hPre_zero_biases_finite_coordinates := Cert.Egnn.preFacts) m) :
    θ_run (Cert.KernelIdeal.defs (F := Ideal)) (onTc (τ := Cert.KernelIdeal.τ) (Cert.KernelIdeal.main (F := Ideal))) ⟨m, fun _ => 0, g⟩ (fun r =>
      ∀ c : Dev Cert.KernelIdeal.nD, r.2.mem ((c.tc : Thread Cert.KernelIdeal.nD Cert.KernelIdeal.τ).loc Cert.KernelIdeal.main_v142) = value m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)) :=
  (θ_run Cert.KernelIdeal.defs _ _).mono (fun _ h c =>
    ⟨((h c).2 Cert.KernelIdeal.main_v142 (Pipeline.mem_restRefs_of Cert.KernelIdeal.main_v142 (by decide) (by decide))).trans
      (Cert.Egnn.kernel_result m c (Cert.Egnn.pos_real m hp c)),
      (((h c).2 Cert.KernelIdeal.main_arg0 (Pipeline.mem_restRefs_of Cert.KernelIdeal.main_arg0 (by decide) (by decide))).trans (Cert.KernelIdeal.Gen.W_main_arg0 m (Cert.KernelIdeal.Gen.dats m) c)),
      (((h c).2 Cert.KernelIdeal.main_arg1 (Pipeline.mem_restRefs_of Cert.KernelIdeal.main_arg1 (by decide) (by decide))).trans (Cert.KernelIdeal.Gen.W_main_arg1 m (Cert.KernelIdeal.Gen.dats m) c)),
      (((h c).2 Cert.KernelIdeal.main_arg2 (Pipeline.mem_restRefs_of Cert.KernelIdeal.main_arg2 (by decide) (by decide))).trans (Cert.KernelIdeal.Gen.W_main_arg2 m (Cert.KernelIdeal.Gen.dats m) c)),
      (((h c).2 Cert.KernelIdeal.main_arg3 (Pipeline.mem_restRefs_of Cert.KernelIdeal.main_arg3 (by decide) (by decide))).trans (Cert.KernelIdeal.Gen.W_main_arg3 m (Cert.KernelIdeal.Gen.dats m) c)),
      (((h c).2 Cert.KernelIdeal.main_arg4 (Pipeline.mem_restRefs_of Cert.KernelIdeal.main_arg4 (by decide) (by decide))).trans (Cert.KernelIdeal.Gen.W_main_arg4 m (Cert.KernelIdeal.Gen.dats m) c)),
      (((h c).2 Cert.KernelIdeal.main_arg5 (Pipeline.mem_restRefs_of Cert.KernelIdeal.main_arg5 (by decide) (by decide))).trans (Cert.KernelIdeal.Gen.W_main_arg5 m (Cert.KernelIdeal.Gen.dats m) c)),
      (((h c).2 Cert.KernelIdeal.main_arg6 (Pipeline.mem_restRefs_of Cert.KernelIdeal.main_arg6 (by decide) (by decide))).trans (Cert.KernelIdeal.Gen.W_main_arg6 m (Cert.KernelIdeal.Gen.dats m) c)),
      (((h c).2 Cert.KernelIdeal.main_arg7 (Pipeline.mem_restRefs_of Cert.KernelIdeal.main_arg7 (by decide) (by decide))).trans (Cert.KernelIdeal.Gen.W_main_arg7 m (Cert.KernelIdeal.Gen.dats m) c)),
      (((h c).2 Cert.KernelIdeal.main_arg8 (Pipeline.mem_restRefs_of Cert.KernelIdeal.main_arg8 (by decide) (by decide))).trans (Cert.KernelIdeal.Gen.W_main_arg8 m (Cert.KernelIdeal.Gen.dats m) c)),
      (((h c).2 Cert.KernelIdeal.main_arg9 (Pipeline.mem_restRefs_of Cert.KernelIdeal.main_arg9 (by decide) (by decide))).trans (Cert.KernelIdeal.Gen.W_main_arg9 m (Cert.KernelIdeal.Gen.dats m) c)),
      (((h c).2 Cert.KernelIdeal.main_arg10 (Pipeline.mem_restRefs_of Cert.KernelIdeal.main_arg10 (by decide) (by decide))).trans (Cert.KernelIdeal.Gen.W_main_arg10 m (Cert.KernelIdeal.Gen.dats m) c)),
      (((h c).2 Cert.KernelIdeal.main_arg11 (Pipeline.mem_restRefs_of Cert.KernelIdeal.main_arg11 (by decide) (by decide))).trans (Cert.KernelIdeal.Gen.W_main_arg11 m (Cert.KernelIdeal.Gen.dats m) c)),
      (((h c).2 Cert.KernelIdeal.main_arg12 (Pipeline.mem_restRefs_of Cert.KernelIdeal.main_arg12 (by decide) (by decide))).trans (Cert.KernelIdeal.Gen.W_main_arg12 m (Cert.KernelIdeal.Gen.dats m) c)),
      (((h c).2 Cert.KernelIdeal.main_arg13 (Pipeline.mem_restRefs_of Cert.KernelIdeal.main_arg13 (by decide) (by decide))).trans (Cert.KernelIdeal.Gen.W_main_arg13 m (Cert.KernelIdeal.Gen.dats m) c)),
      (((h c).2 Cert.KernelIdeal.main_arg14 (Pipeline.mem_restRefs_of Cert.KernelIdeal.main_arg14 (by decide) (by decide))).trans (Cert.KernelIdeal.Gen.W_main_arg14 m (Cert.KernelIdeal.Gen.dats m) c)),
      (((h c).2 Cert.KernelIdeal.main_arg15 (Pipeline.mem_restRefs_of Cert.KernelIdeal.main_arg15 (by decide) (by decide))).trans (Cert.KernelIdeal.Gen.W_main_arg15 m (Cert.KernelIdeal.Gen.dats m) c)),
      (((h c).2 Cert.KernelIdeal.main_arg16 (Pipeline.mem_restRefs_of Cert.KernelIdeal.main_arg16 (by decide) (by decide))).trans (Cert.KernelIdeal.Gen.W_main_arg16 m (Cert.KernelIdeal.Gen.dats m) c)),
      (((h c).2 Cert.KernelIdeal.main_arg17 (Pipeline.mem_restRefs_of Cert.KernelIdeal.main_arg17 (by decide) (by decide))).trans (Cert.KernelIdeal.Gen.W_main_arg17 m (Cert.KernelIdeal.Gen.dats m) c)),
      (((h c).2 Cert.KernelIdeal.main_arg18 (Pipeline.mem_restRefs_of Cert.KernelIdeal.main_arg18 (by decide) (by decide))).trans (Cert.KernelIdeal.Gen.W_main_arg18 m (Cert.KernelIdeal.Gen.dats m) c))⟩)
    (Cert.KernelIdeal.Gen.run_main m g)

/-- The reference, on the kernel's arguments, ends with the same array, its arguments as they were. -/
theorem reference_run (m : (ℓ : Loc Cert.KernelIdeal.nD Cert.KernelIdeal.τ Cert.KernelIdeal.sig) → Buf (Elt Ideal) ℓ)
    (hp : Cert.Pre_KernelIdeal_zero_biases_finite_coordinates (hPre_zero_biases_finite_coordinates := Cert.Egnn.preFacts) m)
    (m' : (ℓ : Loc Cert.ReferenceIdeal.nD Cert.ReferenceIdeal.τ Cert.ReferenceIdeal.sig) → Buf (Elt Ideal) ℓ)
    (g' : Dev Cert.ReferenceIdeal.nD → PrngReg)
    (hm : ∀ c : Dev Cert.KernelIdeal.nD, m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    θ_run (Cert.ReferenceIdeal.defs (F := Ideal)) (onTc (τ := Cert.ReferenceIdeal.τ) (Cert.ReferenceIdeal.main (F := Ideal))) ⟨m', fun _ => 0, g'⟩ (fun r =>
      ∀ c : Dev Cert.ReferenceIdeal.nD, r.2.mem ((c.tc : Thread Cert.ReferenceIdeal.nD Cert.ReferenceIdeal.τ).loc Cert.ReferenceIdeal.main_v268) = value m c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)) := by
  have hz : ∀ c : Dev Cert.ReferenceIdeal.nD, Cert.Egnn.NoBias (StableHlo.launchContents m' c) := fun c => {
    emb := fun i => (congrFun (hm c).2.2.2.2.1 i).trans (Cert.Egnn.b4 m hp c i)
    e1 := fun i => (congrFun (hm c).2.2.2.2.2.2.1 i).trans (Cert.Egnn.b6 m hp c i)
    e2 := fun i => (congrFun (hm c).2.2.2.2.2.2.2.2.1 i).trans (Cert.Egnn.b8 m hp c i)
    att := fun i => (congrFun (hm c).2.2.2.2.2.2.2.2.2.2.1 i).trans (Cert.Egnn.b10 m hp c i)
    n1 := fun i => (congrFun (hm c).2.2.2.2.2.2.2.2.2.2.2.2.1 i).trans (Cert.Egnn.b12 m hp c i)
    n2 := fun i => (congrFun (hm c).2.2.2.2.2.2.2.2.2.2.2.2.2.2.1 i).trans (Cert.Egnn.b14 m hp c i)
    c1 := fun i => (congrFun (hm c).2.2.2.2.2.2.2.2.2.2.2.2.2.2.2.2.1 i).trans (Cert.Egnn.b16 m hp c i)
    c2 := fun i => (congrFun (hm c).2.2.2.2.2.2.2.2.2.2.2.2.2.2.2.2.2.2 i).trans (Cert.Egnn.b18 m hp c i) }
  have ha : ∀ c : Dev Cert.ReferenceIdeal.nD, Cert.Egnn.rArgs (StableHlo.launchContents m' c) = Cert.Egnn.kArgs m c := by
    intro c
    show (⟨m' ((c.tc : Thread Cert.ReferenceIdeal.nD Cert.ReferenceIdeal.τ).loc Cert.ReferenceIdeal.main_arg0), m' ((c.tc : Thread Cert.ReferenceIdeal.nD Cert.ReferenceIdeal.τ).loc Cert.ReferenceIdeal.main_arg1), m' ((c.tc : Thread Cert.ReferenceIdeal.nD Cert.ReferenceIdeal.τ).loc Cert.ReferenceIdeal.main_arg2), m' ((c.tc : Thread Cert.ReferenceIdeal.nD Cert.ReferenceIdeal.τ).loc Cert.ReferenceIdeal.main_arg3), m' ((c.tc : Thread Cert.ReferenceIdeal.nD Cert.ReferenceIdeal.τ).loc Cert.ReferenceIdeal.main_arg5), m' ((c.tc : Thread Cert.ReferenceIdeal.nD Cert.ReferenceIdeal.τ).loc Cert.ReferenceIdeal.main_arg7), m' ((c.tc : Thread Cert.ReferenceIdeal.nD Cert.ReferenceIdeal.τ).loc Cert.ReferenceIdeal.main_arg9), m' ((c.tc : Thread Cert.ReferenceIdeal.nD Cert.ReferenceIdeal.τ).loc Cert.ReferenceIdeal.main_arg11), m' ((c.tc : Thread Cert.ReferenceIdeal.nD Cert.ReferenceIdeal.τ).loc Cert.ReferenceIdeal.main_arg13), m' ((c.tc : Thread Cert.ReferenceIdeal.nD Cert.ReferenceIdeal.τ).loc Cert.ReferenceIdeal.main_arg15), m' ((c.tc : Thread Cert.ReferenceIdeal.nD Cert.ReferenceIdeal.τ).loc Cert.ReferenceIdeal.main_arg17)⟩ : Cert.Egnn.Args) = _
    rw [(hm c).1, (hm c).2.1, (hm c).2.2.1, (hm c).2.2.2.1, (hm c).2.2.2.2.2.1, (hm c).2.2.2.2.2.2.2.1, (hm c).2.2.2.2.2.2.2.2.2.1, (hm c).2.2.2.2.2.2.2.2.2.2.2.1, (hm c).2.2.2.2.2.2.2.2.2.2.2.2.2.1, (hm c).2.2.2.2.2.2.2.2.2.2.2.2.2.2.2.1, (hm c).2.2.2.2.2.2.2.2.2.2.2.2.2.2.2.2.2.1]
    rfl
  refine (θ_run Cert.ReferenceIdeal.defs _ _).mono (fun r h c => ⟨?_, (h.2 c).2⟩)
    (θ_run_and (Cert.Egnn.ref_run m' g') (Cert.ReferenceIdeal.Value.run (F := Ideal) m' g'))
  exact (h.1 c).trans ((Cert.Egnn.rResult_eq _ (hz c)).trans (by rw [ha c]; rfl))

/-- The reference's arguments end unchanged and its counters read zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD, r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- Everything claimed of the kernel, its idealization and the reference. -/
theorem claim : Cert.Claim := ⟨Cert.Kernel.Gen.facts, Cert.KernelIdeal.Gen.facts, Cert.ReferenceIdeal.Gen.facts, Cert.Egnn.preFacts,
  fun m g _ => Cert.Kernel.Gen.frame m g, fun m g _ => Cert.KernelIdeal.Gen.frame m g, fun m g _ => Cert.KernelIdeal.Gen.frame m g,
  fun m g _ => reference_frame m g, fun m g _ => reference_frame m g, trivial,
  fun m g m' g' hp hm => ⟨value m, kernel_run m g hp, reference_run m hp m' g' hm⟩⟩

end Cert.Proof

end
